-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2x256x2048 : Shape := ⟨3, ![2, 256, 2048]⟩
abbrev S2x6 : Shape := ⟨2, ![2, 6]⟩
abbrev S_ : Shape := ⟨0, ![]⟩
abbrev S256x1024 : Shape := ⟨2, ![256, 1024]⟩
abbrev S256x2048 : Shape := ⟨2, ![256, 2048]⟩
abbrev S1x1 : Shape := ⟨2, ![1, 1]⟩
abbrev S1x256x2048 : Shape := ⟨3, ![1, 256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2048x2048, .bf16⟩
  | .local _ .vmem, ⟨4, _⟩ => ⟨S1024x2048, .bf16⟩
  | .local _ .vmem, ⟨5, _⟩ => ⟨S2x256x2048, .bf16⟩
  | .local _ .vmem, ⟨6, _⟩ => ⟨S2x256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_22 : BitVec 32 := 4#32
  let c0_i32_23 : BitVec 32 := 0#32
  let v36 : BitVec 1 := Scalar.cmpi .eq c4_i32_22 c0_i32_23
  let c1_i32_24 : BitVec 32 := 1#32
  let v37 : BitVec 32 := Scalar.select v36 c1_i32_24 c4_i32_22
  let v38 : BitVec 32 := Scalar.remsi v2 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c256_i32 : BitVec 32 := 256#32
  let v46 : BitVec 32 := Scalar.muli v45 c256_i32
  let v47 : Index := Scalar.indexCast v46
  let c0_28 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_22 : BitVec 32 := 4#32
  let c0_i32_23 : BitVec 32 := 0#32
  let v36 : BitVec 1 := Scalar.cmpi .eq c4_i32_22 c0_i32_23
  let c1_i32_24 : BitVec 32 := 1#32
  let v37 : BitVec 32 := Scalar.select v36 c1_i32_24 c4_i32_22
  let v38 : BitVec 32 := Scalar.remsi v2 v37
  let c0_i32_26 : BitVec 32 := 0#32
  let v40 : BitVec 1 := Scalar.cmpi .slt v38 c0_i32_26
  let c0_i32_27 : BitVec 32 := 0#32
  let v41 : BitVec 1 := Scalar.cmpi .slt v37 c0_i32_27
  let v42 : BitVec 1 := Scalar.xori v40 v41
  let c0_i32_25 : BitVec 32 := 0#32
  let v39 : BitVec 1 := Scalar.cmpi .ne v38 c0_i32_25
  let v43 : BitVec 1 := Scalar.andi v42 v39
  let v44 : BitVec 32 := Scalar.addi v38 v37
  let v45 : BitVec 32 := Scalar.select v43 v44 v38
  let c256_i32 : BitVec 32 := 256#32
  let v46 : BitVec 32 := Scalar.muli v45 c256_i32
  let v54 : Index := Scalar.indexCast v46
  let c0_31 : Index := 0#32
  ![v54.toNat, 0]
def k0_off3 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_32 : BitVec 32 := 4#32
  let c0_i32_33 : BitVec 32 := 0#32
  let v58 : BitVec 1 := Scalar.cmpi .eq c4_i32_32 c0_i32_33
  let c1_i32_34 : BitVec 32 := 1#32
  let v59 : BitVec 32 := Scalar.select v58 c1_i32_34 c4_i32_32
  let v60 : BitVec 32 := Scalar.remsi v2 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c256_i32_38 : BitVec 32 := 256#32
  let v68 : BitVec 32 := Scalar.muli v67 c256_i32_38
  let v69 : BitVec 32 := Scalar.addi c1024_i32 v68
  let v70 : Index := Scalar.indexCast v69
  let c0_39 : Index := 0#32
  ![v70.toNat, 0]
def k0_off4 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_32 : BitVec 32 := 4#32
  let c0_i32_33 : BitVec 32 := 0#32
  let v58 : BitVec 1 := Scalar.cmpi .eq c4_i32_32 c0_i32_33
  let c1_i32_34 : BitVec 32 := 1#32
  let v59 : BitVec 32 := Scalar.select v58 c1_i32_34 c4_i32_32
  let v60 : BitVec 32 := Scalar.remsi v2 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c256_i32_38 : BitVec 32 := 256#32
  let v68 : BitVec 32 := Scalar.muli v67 c256_i32_38
  let v69 : BitVec 32 := Scalar.addi c1024_i32 v68
  let v77 : Index := Scalar.indexCast v69
  let c0_43 : Index := 0#32
  ![v77.toNat, 0]
def k0_off5 (d0 : Dev nD) (c0_i32_44 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.subi v2 c0_i32_44
  let c4_i32_45 : BitVec 32 := 4#32
  let c0_i32_46 : BitVec 32 := 0#32
  let v82 : BitVec 1 := Scalar.cmpi .eq c4_i32_45 c0_i32_46
  let c1_i32_47 : BitVec 32 := 1#32
  let v83 : BitVec 32 := Scalar.select v82 c1_i32_47 c4_i32_45
  let v84 : BitVec 32 := Scalar.remsi v81 v83
  let c0_i32_49 : BitVec 32 := 0#32
  let v86 : BitVec 1 := Scalar.cmpi .slt v84 c0_i32_49
  let c0_i32_50 : BitVec 32 := 0#32
  let v87 : BitVec 1 := Scalar.cmpi .slt v83 c0_i32_50
  let v88 : BitVec 1 := Scalar.xori v86 v87
  let c0_i32_48 : BitVec 32 := 0#32
  let v85 : BitVec 1 := Scalar.cmpi .ne v84 c0_i32_48
  let v89 : BitVec 1 := Scalar.andi v88 v85
  let v90 : BitVec 32 := Scalar.addi v84 v83
  let v91 : BitVec 32 := Scalar.select v89 v90 v84
  let c256_i32_51 : BitVec 32 := 256#32
  let v92 : BitVec 32 := Scalar.muli v91 c256_i32_51
  let c0_i32_70 : BitVec 32 := 0#32
  ![v92.toNat, 0]
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_66 : BitVec 32 := 1#32
  let v106 : BitVec 32 := Scalar.muli v24 c1_i32_66
  let v107 : BitVec 32 := Scalar.addi c0_i32_67 v106
  v107.toNat
def k0_off6 (d0 : Dev nD) (c0_i32_52 : BitVec 32) : Fin 2 → Nat :=
  let c1024_i32_60 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v93 : BitVec 32 := Scalar.addi v2 c0_i32_52
  let c4_i32_53 : BitVec 32 := 4#32
  let c0_i32_54 : BitVec 32 := 0#32
  let v94 : BitVec 1 := Scalar.cmpi .eq c4_i32_53 c0_i32_54
  let c1_i32_55 : BitVec 32 := 1#32
  let v95 : BitVec 32 := Scalar.select v94 c1_i32_55 c4_i32_53
  let v96 : BitVec 32 := Scalar.remsi v93 v95
  let c0_i32_57 : BitVec 32 := 0#32
  let v98 : BitVec 1 := Scalar.cmpi .slt v96 c0_i32_57
  let c0_i32_58 : BitVec 32 := 0#32
  let v99 : BitVec 1 := Scalar.cmpi .slt v95 c0_i32_58
  let v100 : BitVec 1 := Scalar.xori v98 v99
  let c0_i32_56 : BitVec 32 := 0#32
  let v97 : BitVec 1 := Scalar.cmpi .ne v96 c0_i32_56
  let v101 : BitVec 1 := Scalar.andi v100 v97
  let v102 : BitVec 32 := Scalar.addi v96 v95
  let v103 : BitVec 32 := Scalar.select v101 v102 v96
  let c256_i32_59 : BitVec 32 := 256#32
  let v104 : BitVec 32 := Scalar.muli v103 c256_i32_59
  let v105 : BitVec 32 := Scalar.addi c1024_i32_60 v104
  let c0_i32_80 : BitVec 32 := 0#32
  ![v105.toNat, 0]
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_76 : BitVec 32 := 1#32
  let v115 : BitVec 32 := Scalar.muli v13 c1_i32_76
  let v116 : BitVec 32 := Scalar.addi c0_i32_77 v115
  v116.toNat
def k0_off7 (d0 : Dev nD) (c0_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.subi v2 c0_i32_81
  let c1_i32_82 : BitVec 32 := 1#32
  let v125 : BitVec 32 := Scalar.subi v124 c1_i32_82
  let c4_i32_83 : BitVec 32 := 4#32
  let c0_i32_84 : BitVec 32 := 0#32
  let v126 : BitVec 1 := Scalar.cmpi .eq c4_i32_83 c0_i32_84
  let c1_i32_85 : BitVec 32 := 1#32
  let v127 : BitVec 32 := Scalar.select v126 c1_i32_85 c4_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c256_i32_89 : BitVec 32 := 256#32
  let v136 : BitVec 32 := Scalar.muli v135 c256_i32_89
  let v137 : Index := Scalar.indexCast v136
  let c0_90 : Index := 0#32
  ![v137.toNat, 0]
def k0_off8 (d0 : Dev nD) (c0_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.subi v2 c0_i32_81
  let c1_i32_82 : BitVec 32 := 1#32
  let v125 : BitVec 32 := Scalar.subi v124 c1_i32_82
  let c4_i32_83 : BitVec 32 := 4#32
  let c0_i32_84 : BitVec 32 := 0#32
  let v126 : BitVec 1 := Scalar.cmpi .eq c4_i32_83 c0_i32_84
  let c1_i32_85 : BitVec 32 := 1#32
  let v127 : BitVec 32 := Scalar.select v126 c1_i32_85 c4_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c256_i32_89 : BitVec 32 := 256#32
  let v136 : BitVec 32 := Scalar.muli v135 c256_i32_89
  let v144 : Index := Scalar.indexCast v136
  let c0_94 : Index := 0#32
  ![v144.toNat, 0]
def k0_off9 (d0 : Dev nD) (c0_i32_95 : BitVec 32) : Fin 2 → Nat :=
  let c1024_i32_104 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.addi v2 c0_i32_95
  let c1_i32_96 : BitVec 32 := 1#32
  let v149 : BitVec 32 := Scalar.addi v148 c1_i32_96
  let c4_i32_97 : BitVec 32 := 4#32
  let c0_i32_98 : BitVec 32 := 0#32
  let v150 : BitVec 1 := Scalar.cmpi .eq c4_i32_97 c0_i32_98
  let c1_i32_99 : BitVec 32 := 1#32
  let v151 : BitVec 32 := Scalar.select v150 c1_i32_99 c4_i32_97
  let v152 : BitVec 32 := Scalar.remsi v149 v151
  let c0_i32_101 : BitVec 32 := 0#32
  let v154 : BitVec 1 := Scalar.cmpi .slt v152 c0_i32_101
  let c0_i32_102 : BitVec 32 := 0#32
  let v155 : BitVec 1 := Scalar.cmpi .slt v151 c0_i32_102
  let v156 : BitVec 1 := Scalar.xori v154 v155
  let c0_i32_100 : BitVec 32 := 0#32
  let v153 : BitVec 1 := Scalar.cmpi .ne v152 c0_i32_100
  let v157 : BitVec 1 := Scalar.andi v156 v153
  let v158 : BitVec 32 := Scalar.addi v152 v151
  let v159 : BitVec 32 := Scalar.select v157 v158 v152
  let c256_i32_103 : BitVec 32 := 256#32
  let v160 : BitVec 32 := Scalar.muli v159 c256_i32_103
  let v161 : BitVec 32 := Scalar.addi c1024_i32_104 v160
  let v162 : Index := Scalar.indexCast v161
  let c0_105 : Index := 0#32
  ![v162.toNat, 0]
def k0_off10 (d0 : Dev nD) (c0_i32_95 : BitVec 32) : Fin 2 → Nat :=
  let c1024_i32_104 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v148 : BitVec 32 := Scalar.addi v2 c0_i32_95
  let c1_i32_96 : BitVec 32 := 1#32
  let v149 : BitVec 32 := Scalar.addi v148 c1_i32_96
  let c4_i32_97 : BitVec 32 := 4#32
  let c0_i32_98 : BitVec 32 := 0#32
  let v150 : BitVec 1 := Scalar.cmpi .eq c4_i32_97 c0_i32_98
  let c1_i32_99 : BitVec 32 := 1#32
  let v151 : BitVec 32 := Scalar.select v150 c1_i32_99 c4_i32_97
  let v152 : BitVec 32 := Scalar.remsi v149 v151
  let c0_i32_101 : BitVec 32 := 0#32
  let v154 : BitVec 1 := Scalar.cmpi .slt v152 c0_i32_101
  let c0_i32_102 : BitVec 32 := 0#32
  let v155 : BitVec 1 := Scalar.cmpi .slt v151 c0_i32_102
  let v156 : BitVec 1 := Scalar.xori v154 v155
  let c0_i32_100 : BitVec 32 := 0#32
  let v153 : BitVec 1 := Scalar.cmpi .ne v152 c0_i32_100
  let v157 : BitVec 1 := Scalar.andi v156 v153
  let v158 : BitVec 32 := Scalar.addi v152 v151
  let v159 : BitVec 32 := Scalar.select v157 v158 v152
  let c256_i32_103 : BitVec 32 := 256#32
  let v160 : BitVec 32 := Scalar.muli v159 c256_i32_103
  let v161 : BitVec 32 := Scalar.addi c1024_i32_104 v160
  let v169 : Index := Scalar.indexCast v161
  let c0_109 : Index := 0#32
  ![v169.toNat, 0]
def k0_dev5 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_199 : BitVec 32 := 1#32
  let v267 : BitVec 32 := Scalar.muli v24 c1_i32_199
  let v268 : BitVec 32 := Scalar.addi c0_i32_200 v267
  v268.toNat
def k0_dev6 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_209 : BitVec 32 := 1#32
  let v276 : BitVec 32 := Scalar.muli v13 c1_i32_209
  let v277 : BitVec 32 := Scalar.addi c0_i32_210 v276
  v277.toNat
def k0_dev7 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_331 : BitVec 32 := 1#32
  let v428 : BitVec 32 := Scalar.muli v24 c1_i32_331
  let v429 : BitVec 32 := Scalar.addi c0_i32_332 v428
  v429.toNat
def k0_dev8 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_341 : BitVec 32 := 1#32
  let v437 : BitVec 32 := Scalar.muli v13 c1_i32_341
  let v438 : BitVec 32 := Scalar.addi c0_i32_342 v437
  v438.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_442 : BitVec 32 := 1#32
  let v564 : BitVec 32 := Scalar.addi v2 c1_i32_442
  let c4_i32_443 : BitVec 32 := 4#32
  let c0_i32_444 : BitVec 32 := 0#32
  let v565 : BitVec 1 := Scalar.cmpi .eq c4_i32_443 c0_i32_444
  let c1_i32_445 : BitVec 32 := 1#32
  let v566 : BitVec 32 := Scalar.select v565 c1_i32_445 c4_i32_443
  let v567 : BitVec 32 := Scalar.remsi v564 v566
  let c0_i32_447 : BitVec 32 := 0#32
  let v569 : BitVec 1 := Scalar.cmpi .slt v567 c0_i32_447
  let c0_i32_448 : BitVec 32 := 0#32
  let v570 : BitVec 1 := Scalar.cmpi .slt v566 c0_i32_448
  let v571 : BitVec 1 := Scalar.xori v569 v570
  let c0_i32_446 : BitVec 32 := 0#32
  let v568 : BitVec 1 := Scalar.cmpi .ne v567 c0_i32_446
  let v572 : BitVec 1 := Scalar.andi v571 v568
  let v573 : BitVec 32 := Scalar.addi v567 v566
  let v574 : BitVec 32 := Scalar.select v572 v573 v567
  let c256_i32_449 : BitVec 32 := 256#32
  let v575 : BitVec 32 := Scalar.muli v574 c256_i32_449
  let v589 : Index := Scalar.indexCast v575
  let c0_459 : Index := 0#32
  ![v589.toNat, 0]
def k0_off12 (d0 : Dev nD) : Fin 2 → Nat :=
  let c1024_i32_458 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_450 : BitVec 32 := 1#32
  let v576 : BitVec 32 := Scalar.subi v2 c1_i32_450
  let c4_i32_451 : BitVec 32 := 4#32
  let c0_i32_452 : BitVec 32 := 0#32
  let v577 : BitVec 1 := Scalar.cmpi .eq c4_i32_451 c0_i32_452
  let c1_i32_453 : BitVec 32 := 1#32
  let v578 : BitVec 32 := Scalar.select v577 c1_i32_453 c4_i32_451
  let v579 : BitVec 32 := Scalar.remsi v576 v578
  let c0_i32_455 : BitVec 32 := 0#32
  let v581 : BitVec 1 := Scalar.cmpi .slt v579 c0_i32_455
  let c0_i32_456 : BitVec 32 := 0#32
  let v582 : BitVec 1 := Scalar.cmpi .slt v578 c0_i32_456
  let v583 : BitVec 1 := Scalar.xori v581 v582
  let c0_i32_454 : BitVec 32 := 0#32
  let v580 : BitVec 1 := Scalar.cmpi .ne v579 c0_i32_454
  let v584 : BitVec 1 := Scalar.andi v583 v580
  let v585 : BitVec 32 := Scalar.addi v579 v578
  let v586 : BitVec 32 := Scalar.select v584 v585 v579
  let c256_i32_457 : BitVec 32 := 256#32
  let v587 : BitVec 32 := Scalar.muli v586 c256_i32_457
  let v588 : BitVec 32 := Scalar.addi c1024_i32_458 v587
  let v612 : Index := Scalar.indexCast v588
  let c0_466 : Index := 0#32
  ![v612.toNat, 0]
def k0_off13 (d0 : Dev nD) (c0_i32_483 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_482 : BitVec 32 := 1#32
  let v648 : BitVec 32 := Scalar.addi v2 c1_i32_482
  let v649 : BitVec 32 := Scalar.subi v648 c0_i32_483
  let c4_i32_484 : BitVec 32 := 4#32
  let c0_i32_485 : BitVec 32 := 0#32
  let v650 : BitVec 1 := Scalar.cmpi .eq c4_i32_484 c0_i32_485
  let c1_i32_486 : BitVec 32 := 1#32
  let v651 : BitVec 32 := Scalar.select v650 c1_i32_486 c4_i32_484
  let v652 : BitVec 32 := Scalar.remsi v649 v651
  let c0_i32_488 : BitVec 32 := 0#32
  let v654 : BitVec 1 := Scalar.cmpi .slt v652 c0_i32_488
  let c0_i32_489 : BitVec 32 := 0#32
  let v655 : BitVec 1 := Scalar.cmpi .slt v651 c0_i32_489
  let v656 : BitVec 1 := Scalar.xori v654 v655
  let c0_i32_487 : BitVec 32 := 0#32
  let v653 : BitVec 1 := Scalar.cmpi .ne v652 c0_i32_487
  let v657 : BitVec 1 := Scalar.andi v656 v653
  let v658 : BitVec 32 := Scalar.addi v652 v651
  let v659 : BitVec 32 := Scalar.select v657 v658 v652
  let c256_i32_490 : BitVec 32 := 256#32
  let v660 : BitVec 32 := Scalar.muli v659 c256_i32_490
  let c0_i32_516 : BitVec 32 := 0#32
  ![v660.toNat, 0]
def k0_dev9 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_514 : BitVec 32 := 1#32
  let v689 : BitVec 32 := Scalar.muli v24 c1_i32_514
  let v690 : BitVec 32 := Scalar.addi c0_i32_515 v689
  v690.toNat
def k0_off14 (d0 : Dev nD) (c0_i32_502 : BitVec 32) : Fin 2 → Nat :=
  let c1024_i32_510 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_501 : BitVec 32 := 1#32
  let v675 : BitVec 32 := Scalar.subi v2 c1_i32_501
  let v676 : BitVec 32 := Scalar.addi v675 c0_i32_502
  let c4_i32_503 : BitVec 32 := 4#32
  let c0_i32_504 : BitVec 32 := 0#32
  let v677 : BitVec 1 := Scalar.cmpi .eq c4_i32_503 c0_i32_504
  let c1_i32_505 : BitVec 32 := 1#32
  let v678 : BitVec 32 := Scalar.select v677 c1_i32_505 c4_i32_503
  let v679 : BitVec 32 := Scalar.remsi v676 v678
  let c0_i32_507 : BitVec 32 := 0#32
  let v681 : BitVec 1 := Scalar.cmpi .slt v679 c0_i32_507
  let c0_i32_508 : BitVec 32 := 0#32
  let v682 : BitVec 1 := Scalar.cmpi .slt v678 c0_i32_508
  let v683 : BitVec 1 := Scalar.xori v681 v682
  let c0_i32_506 : BitVec 32 := 0#32
  let v680 : BitVec 1 := Scalar.cmpi .ne v679 c0_i32_506
  let v684 : BitVec 1 := Scalar.andi v683 v680
  let v685 : BitVec 32 := Scalar.addi v679 v678
  let v686 : BitVec 32 := Scalar.select v684 v685 v679
  let c256_i32_509 : BitVec 32 := 256#32
  let v687 : BitVec 32 := Scalar.muli v686 c256_i32_509
  let v688 : BitVec 32 := Scalar.addi c1024_i32_510 v687
  let c0_i32_524 : BitVec 32 := 0#32
  ![v688.toNat, 0]
def k0_dev10 (d0 : Dev nD) : Nat :=
  let c0_i32_523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_522 : BitVec 32 := 1#32
  let v697 : BitVec 32 := Scalar.muli v13 c1_i32_522
  let v698 : BitVec 32 := Scalar.addi c0_i32_523 v697
  v698.toNat
def k0_off15 (d0 : Dev nD) (c0_i32_556 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v725 : BitVec 32 := Scalar.subi v2 c0_i32_556
  let c4_i32_557 : BitVec 32 := 4#32
  let c0_i32_558 : BitVec 32 := 0#32
  let v726 : BitVec 1 := Scalar.cmpi .eq c4_i32_557 c0_i32_558
  let c1_i32_559 : BitVec 32 := 1#32
  let v727 : BitVec 32 := Scalar.select v726 c1_i32_559 c4_i32_557
  let v728 : BitVec 32 := Scalar.remsi v725 v727
  let c0_i32_561 : BitVec 32 := 0#32
  let v730 : BitVec 1 := Scalar.cmpi .slt v728 c0_i32_561
  let c0_i32_562 : BitVec 32 := 0#32
  let v731 : BitVec 1 := Scalar.cmpi .slt v727 c0_i32_562
  let v732 : BitVec 1 := Scalar.xori v730 v731
  let c0_i32_560 : BitVec 32 := 0#32
  let v729 : BitVec 1 := Scalar.cmpi .ne v728 c0_i32_560
  let v733 : BitVec 1 := Scalar.andi v732 v729
  let v734 : BitVec 32 := Scalar.addi v728 v727
  let v735 : BitVec 32 := Scalar.select v733 v734 v728
  let c256_i32_563 : BitVec 32 := 256#32
  let v736 : BitVec 32 := Scalar.muli v735 c256_i32_563
  let v737 : Index := Scalar.indexCast v736
  let c0_564 : Index := 0#32
  ![v737.toNat, 0]
def k0_off16 (d0 : Dev nD) (c0_i32_566 : BitVec 32) : Fin 2 → Nat :=
  let c1024_i32_574 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v742 : BitVec 32 := Scalar.addi v2 c0_i32_566
  let c4_i32_567 : BitVec 32 := 4#32
  let c0_i32_568 : BitVec 32 := 0#32
  let v743 : BitVec 1 := Scalar.cmpi .eq c4_i32_567 c0_i32_568
  let c1_i32_569 : BitVec 32 := 1#32
  let v744 : BitVec 32 := Scalar.select v743 c1_i32_569 c4_i32_567
  let v745 : BitVec 32 := Scalar.remsi v742 v744
  let c0_i32_571 : BitVec 32 := 0#32
  let v747 : BitVec 1 := Scalar.cmpi .slt v745 c0_i32_571
  let c0_i32_572 : BitVec 32 := 0#32
  let v748 : BitVec 1 := Scalar.cmpi .slt v744 c0_i32_572
  let v749 : BitVec 1 := Scalar.xori v747 v748
  let c0_i32_570 : BitVec 32 := 0#32
  let v746 : BitVec 1 := Scalar.cmpi .ne v745 c0_i32_570
  let v750 : BitVec 1 := Scalar.andi v749 v746
  let v751 : BitVec 32 := Scalar.addi v745 v744
  let v752 : BitVec 32 := Scalar.select v750 v751 v745
  let c256_i32_573 : BitVec 32 := 256#32
  let v753 : BitVec 32 := Scalar.muli v752 c256_i32_573
  let v754 : BitVec 32 := Scalar.addi c1024_i32_574 v753
  let v755 : Index := Scalar.indexCast v754
  let c0_575 : Index := 0#32
  ![v755.toNat, 0]
def k0_dev11 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_619 : BitVec 32 := 1#32
  let v814 : BitVec 32 := Scalar.muli v24 c1_i32_619
  let v815 : BitVec 32 := Scalar.addi c0_i32_620 v814
  v815.toNat
def k0_dev12 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_627 : BitVec 32 := 1#32
  let v822 : BitVec 32 := Scalar.muli v13 c1_i32_627
  let v823 : BitVec 32 := Scalar.addi c0_i32_628 v822
  v823.toNat
def k0_dev13 (d0 : Dev nD) : Nat :=
  let c0_i32_724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_723 : BitVec 32 := 1#32
  let v939 : BitVec 32 := Scalar.muli v24 c1_i32_723
  let v940 : BitVec 32 := Scalar.addi c0_i32_724 v939
  v940.toNat
def k0_dev14 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_731 : BitVec 32 := 1#32
  let v947 : BitVec 32 := Scalar.muli v13 c1_i32_731
  let v948 : BitVec 32 := Scalar.addi c0_i32_732 v947
  v948.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
/- The ring of four devices, the chunks of the accumulator and of the result, the slots of the two landing buffers and the
   semaphore cells, each in a form that does not mention the printed index arithmetic; and the printed offsets, devices
   and semaphores in that form. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.K

open Cert.KernelIdeal Cert.KernelIdeal.Gen
open Idealize.ShloMosaic Idealize.ShloMosaic.TcCoe
open Idealize.SL Idealize.SL.Sem

/-! ## The ring

A direction `d` is `false` (clockwise) or `true` (counter-clockwise). -/

/-- The neighbour that device `c` sends to in direction `d`. -/
def fwd (d : Bool) (c : Dev nD) : Dev nD := match d with
  | false => ⟨(c.val + 1) % 4, Nat.mod_lt _ (by decide)⟩
  | true => ⟨(c.val + 3) % 4, Nat.mod_lt _ (by decide)⟩

/-- The device `n` steps against direction `d` from `c`. -/
def bkn (d : Bool) (n : ℕ) (c : Dev nD) : Dev nD := match d with
  | false => ⟨(c.val + 3 * n) % 4, Nat.mod_lt _ (by decide)⟩
  | true => ⟨(c.val + n) % 4, Nat.mod_lt _ (by decide)⟩

/-- The neighbour that device `c` receives from in direction `d`. -/
abbrev bk (d : Bool) (c : Dev nD) : Dev nD := bkn d 1 c

/-- No step back is the device itself. -/
theorem bkn_zero (d : Bool) (c : Dev nD) : bkn d 0 c = c := by revert d c; decide
/-- `n` steps back from the device behind are `n + 1` steps back. -/
theorem bkn_bk (d : Bool) (n : ℕ) (c : Dev nD) : bkn d n (bk d c) = bkn d (n + 1) c := by
  cases d <;> exact Fin.ext (by simp only [bk, bkn]; omega)
/-- One step back from `n` steps back are `n + 1` steps back. -/
theorem bk_bkn (d : Bool) (n : ℕ) (c : Dev nD) : bk d (bkn d n c) = bkn d (n + 1) c := by
  cases d <;> exact Fin.ext (by simp only [bk, bkn]; omega)
/-- Four steps back go once around the ring. -/
theorem bkn_four (d : Bool) (n : ℕ) (c : Dev nD) : bkn d (n + 4) c = bkn d n c := by
  cases d <;> exact Fin.ext (by simp only [bkn]; omega)
/-- One step ahead is three steps back. -/
theorem fwd_eq (d : Bool) (c : Dev nD) : fwd d c = bkn d 3 c := by revert d c; decide
/-- `n + 1` steps back from the device ahead are `n` steps back. -/
theorem bkn_fwd (d : Bool) (n : ℕ) (c : Dev nD) : bkn d (n + 1) (fwd d c) = bkn d n c := by
  rw [fwd_eq]; cases d <;> exact Fin.ext (by simp only [bkn]; omega)
/-- Ahead and then back is the device itself. -/
theorem bk_fwd (d : Bool) (c : Dev nD) : bk d (fwd d c) = c := by revert d c; decide
/-- Back and then ahead is the device itself. -/
theorem fwd_bk (d : Bool) (c : Dev nD) : fwd d (bk d c) = c := by revert d c; decide
/-- Ahead in the other direction is back in this one. -/
theorem fwd_not (d : Bool) (c : Dev nD) : fwd (!d) c = bk d c := by revert d c; decide
/-- Back in the other direction is ahead in this one. -/
theorem bk_not (d : Bool) (c : Dev nD) : bk (!d) c = fwd d c := by revert d c; decide
/-- The two neighbours of a device differ. -/
theorem fwd_ne (c : Dev nD) : fwd false c ≠ fwd true c := by revert c; decide

/-- Direction `d`'s shift of the ring, as a permutation. -/
def ring (d : Bool) : Dev nD ≃ Dev nD := ⟨fwd d, bk d, bk_fwd d, fwd_bk d⟩

/-! ## The row chunks

Rows `1024 d + 256 j …` of a 2048 × 2048 array are chunk `(d, j)`; those of the left operand's block likewise. -/

/-- Where chunk `(d, j)` begins: row and column. -/
abbrev rowOff (d : Bool) (j : Dev nD) : Fin 2 → ℕ := ![256 * j.val + 1024 * d.toNat, 0]

/-- Chunk `(d, j)` lies inside a 2048 × 2048 array. -/
theorem rowOff_inb (d : Bool) (j : Dev nD) : ∀ a, rowOff d j a + S256x2048.size a ≤ S2048x2048.size a := by
  revert d j; decide
/-- Chunk `(d, j)` lies inside a 2048 × 1024 array. -/
theorem rowOff_inbA (d : Bool) (j : Dev nD) : ∀ a, rowOff d j a + S256x1024.size a ≤ S2048x1024.size a := by
  revert d j; decide

/-- Chunk `(d, j)` of a 2048 × 2048 array. -/
abbrev rows (d : Bool) (j : Dev nD) : Rect S2048x2048 := Rect.unit (rowOff d j) S256x2048.size (rowOff_inb d j)
/-- Chunk `(d, j)` of a 2048 × 1024 array. -/
abbrev rowsA (d : Bool) (j : Dev nD) : Rect S2048x1024 := Rect.unit (rowOff d j) S256x1024.size (rowOff_inbA d j)

/-- The printed offset 1 is that of the device's own chunk of the top half. -/
theorem off1_eq (c : Dev nD) : k0_off1 c = rowOff false (bkn false 0 c) := by revert c; decide
/-- The printed offset 2 is that of the device's own chunk of the top half. -/
theorem off2_eq (c : Dev nD) : k0_off2 c = rowOff false (bkn false 0 c) := by revert c; decide
/-- The printed offset 3 is that of the device's own chunk of the bottom half. -/
theorem off3_eq (c : Dev nD) : k0_off3 c = rowOff true (bkn true 0 c) := by revert c; decide
/-- The printed offset 4 is that of the device's own chunk of the bottom half. -/
theorem off4_eq (c : Dev nD) : k0_off4 c = rowOff true (bkn true 0 c) := by revert c; decide
/-- The printed offset 5 is that of the chunk of the top half that belongs to the device `r` steps back. -/
theorem off5_eq (c : Dev nD) (r : Fin 3) : k0_off5 c (BitVec.ofNat 32 r.val) = rowOff false (bkn false r.val c) := by revert c r; decide
/-- The printed offset 6 is that of the chunk of the bottom half that belongs to the device `r` steps back. -/
theorem off6_eq (c : Dev nD) (r : Fin 3) : k0_off6 c (BitVec.ofNat 32 r.val) = rowOff true (bkn true r.val c) := by revert c r; decide
/-- The printed offset 7 is that of the chunk of the top half that belongs to the device `r + 1` steps back. -/
theorem off7_eq (c : Dev nD) (r : Fin 3) : k0_off7 c (BitVec.ofNat 32 r.val) = rowOff false (bkn false (r.val + 1) c) := by revert c r; decide
/-- The printed offset 8 is that of the chunk of the top half that belongs to the device `r + 1` steps back. -/
theorem off8_eq (c : Dev nD) (r : Fin 3) : k0_off8 c (BitVec.ofNat 32 r.val) = rowOff false (bkn false (r.val + 1) c) := by revert c r; decide
/-- The printed offset 9 is that of the chunk of the bottom half that belongs to the device `r + 1` steps back. -/
theorem off9_eq (c : Dev nD) (r : Fin 3) : k0_off9 c (BitVec.ofNat 32 r.val) = rowOff true (bkn true (r.val + 1) c) := by revert c r; decide
/-- The printed offset 10 is that of the chunk of the bottom half that belongs to the device `r + 1` steps back. -/
theorem off10_eq (c : Dev nD) (r : Fin 3) : k0_off10 c (BitVec.ofNat 32 r.val) = rowOff true (bkn true (r.val + 1) c) := by revert c r; decide
/-- The printed offset 11 is that of the chunk of the top half that belongs to the device `3` steps back. -/
theorem off11_eq (c : Dev nD) : k0_off11 c = rowOff false (bkn false 3 c) := by revert c; decide
/-- The printed offset 12 is that of the chunk of the bottom half that belongs to the device `3` steps back. -/
theorem off12_eq (c : Dev nD) : k0_off12 c = rowOff true (bkn true 3 c) := by revert c; decide
/-- The printed offset 13 is that of the chunk of the top half that belongs to the device `r + 3` steps back. -/
theorem off13_eq (c : Dev nD) (r : Fin 3) : k0_off13 c (BitVec.ofNat 32 r.val) = rowOff false (bkn false (r.val + 3) c) := by revert c r; decide
/-- The printed offset 14 is that of the chunk of the bottom half that belongs to the device `r + 3` steps back. -/
theorem off14_eq (c : Dev nD) (r : Fin 3) : k0_off14 c (BitVec.ofNat 32 r.val) = rowOff true (bkn true (r.val + 3) c) := by revert c r; decide
/-- The printed offset 15 is that of the chunk of the top half that belongs to the device `r` steps back. -/
theorem off15_eq (c : Dev nD) (r : Fin 3) : k0_off15 c (BitVec.ofNat 32 r.val) = rowOff false (bkn false r.val c) := by revert c r; decide
/-- The printed offset 16 is that of the chunk of the bottom half that belongs to the device `r` steps back. -/
theorem off16_eq (c : Dev nD) (r : Fin 3) : k0_off16 c (BitVec.ofNat 32 r.val) = rowOff true (bkn true r.val c) := by revert c r; decide

/-- The printed target 1 is the neighbour ahead in the direction `true`. -/
theorem dev1_eq (c : Dev nD) : (⟨k0_dev1 c, k0_dev1_lt c⟩ : Dev nD) = fwd true c := by revert c; decide
/-- The printed target 2 is the neighbour ahead in the direction `false`. -/
theorem dev2_eq (c : Dev nD) : (⟨k0_dev2 c, k0_dev2_lt c⟩ : Dev nD) = fwd false c := by revert c; decide
/-- The printed target 3 is the neighbour ahead in the direction `false`. -/
theorem dev3_eq (c : Dev nD) : (⟨k0_dev3 c, k0_dev3_lt c⟩ : Dev nD) = fwd false c := by revert c; decide
/-- The printed target 4 is the neighbour ahead in the direction `true`. -/
theorem dev4_eq (c : Dev nD) : (⟨k0_dev4 c, k0_dev4_lt c⟩ : Dev nD) = fwd true c := by revert c; decide
/-- The printed target 5 is the neighbour ahead in the direction `false`. -/
theorem dev5_eq (c : Dev nD) : (⟨k0_dev5 c, k0_dev5_lt c⟩ : Dev nD) = fwd false c := by revert c; decide
/-- The printed target 6 is the neighbour ahead in the direction `true`. -/
theorem dev6_eq (c : Dev nD) : (⟨k0_dev6 c, k0_dev6_lt c⟩ : Dev nD) = fwd true c := by revert c; decide
/-- The printed target 7 is the neighbour ahead in the direction `false`. -/
theorem dev7_eq (c : Dev nD) : (⟨k0_dev7 c, k0_dev7_lt c⟩ : Dev nD) = fwd false c := by revert c; decide
/-- The printed target 8 is the neighbour ahead in the direction `true`. -/
theorem dev8_eq (c : Dev nD) : (⟨k0_dev8 c, k0_dev8_lt c⟩ : Dev nD) = fwd true c := by revert c; decide
/-- The printed target 9 is the neighbour ahead in the direction `false`. -/
theorem dev9_eq (c : Dev nD) : (⟨k0_dev9 c, k0_dev9_lt c⟩ : Dev nD) = fwd false c := by revert c; decide
/-- The printed target 10 is the neighbour ahead in the direction `true`. -/
theorem dev10_eq (c : Dev nD) : (⟨k0_dev10 c, k0_dev10_lt c⟩ : Dev nD) = fwd true c := by revert c; decide
/-- The printed target 11 is the neighbour ahead in the direction `false`. -/
theorem dev11_eq (c : Dev nD) : (⟨k0_dev11 c, k0_dev11_lt c⟩ : Dev nD) = fwd false c := by revert c; decide
/-- The printed target 12 is the neighbour ahead in the direction `true`. -/
theorem dev12_eq (c : Dev nD) : (⟨k0_dev12 c, k0_dev12_lt c⟩ : Dev nD) = fwd true c := by revert c; decide
/-- The printed target 13 is the neighbour ahead in the direction `false`. -/
theorem dev13_eq (c : Dev nD) : (⟨k0_dev13 c, k0_dev13_lt c⟩ : Dev nD) = fwd false c := by revert c; decide
/-- The printed target 14 is the neighbour ahead in the direction `true`. -/
theorem dev14_eq (c : Dev nD) : (⟨k0_dev14 c, k0_dev14_lt c⟩ : Dev nD) = fwd true c := by revert c; decide

/-! ## Buffers -/

/-- The staging buffer of the left operand. -/
abbrev aM : Memref sig .tc .vmem S2048x1024 .f32 := Memref.whole cc0_stg0_0
/-- The staging buffer of the right operand. -/
abbrev bM : Memref sig .tc .vmem S1024x2048 .f32 := Memref.whole cc0_stg1_0
/-- The staging buffer of the result. -/
abbrev oM : Memref sig .tc .vmem S2048x2048 .f32 := Memref.whole cc0_stg2_0
/-- The accumulator. -/
abbrev accM : Memref sig .tc .vmem S2048x2048 .bf16 := Memref.whole cc0_scratch0
/-- The rounded right operand. -/
abbrev b16M : Memref sig .tc .vmem S1024x2048 .bf16 := Memref.whole cc0_scratch1
/-- The landing buffer of direction `d`: two slots. -/
abbrev commM (d : Bool) : Memref sig .tc .vmem S2x256x2048 .bf16 := match d with
  | false => Memref.whole cc0_scratch2
  | true => Memref.whole cc0_scratch3

/-- Where slot `s` of a landing buffer begins. -/
abbrev slotOff (s : Bool) : Fin 3 → ℕ := ![s.toNat, 0, 0]
/-- Slot `s` lies inside its landing buffer. -/
theorem slotOff_inb (s : Bool) : ∀ a, slotOff s a + S1x256x2048.size a ≤ S2x256x2048.size a := by revert s; decide
/-- Slot `s` of a landing buffer. -/
abbrev slot (s : Bool) : Rect S2x256x2048 := Rect.unit (slotOff s) S1x256x2048.size (slotOff_inb s)

/-- A slot without its leading axis is a chunk. -/
theorem squeezes_slot : S1x256x2048.Squeezes S256x2048 := squeezes_S1x256x2048_S256x2048

/-- Chunk `(d, j)` of the accumulator. -/
abbrev accC (d : Bool) (j : Dev nD) : Memref sig .tc .vmem S256x2048 .bf16 := accM.slice (rows d j) (fun _ => rfl)
/-- Chunk `(d, j)` of the result's staging buffer. -/
abbrev outC (d : Bool) (j : Dev nD) : Memref sig .tc .vmem S256x2048 .f32 := oM.slice (rows d j) (fun _ => rfl)
/-- Slot `s` of direction `d`'s landing buffer, as a 256 × 2048 array. -/
abbrev slotM (d s : Bool) : Memref sig .tc .vmem S256x2048 .bf16 :=
  ((commM d).slice (slot s) (fun _ => rfl)).squeeze S256x2048 squeezes_slot

/-! ## Semaphores -/

/-- The barrier semaphore. -/
abbrev barS : Sem sig := (SemArray.scalar (sig.barrier 0 rfl) : Sems sig S_).sem
/-- The semaphore that hop `k` in direction `d` credits on its sender. -/
abbrev sendQ (d : Bool) (k : Fin 6) : DmaSem sig := ⟨3 + 6 * d.toNat + k.val, by revert d k; decide⟩
/-- The semaphore that hop `k` in direction `d` credits on its receiver. -/
abbrev recvQ (d : Bool) (k : Fin 6) : DmaSem sig := ⟨15 + 6 * d.toNat + k.val, by revert d k; decide⟩

/-- The barrier semaphore of device `c`. -/
abbrev barCell (c : Dev nD) : GSem nD τ sig := ((c : Thread nD τ), .reg barS)
/-- The send semaphore of hop `k` in direction `d`, on device `c`. -/
abbrev sendCell (d : Bool) (k : Fin 6) (c : Dev nD) : GSem nD τ sig := ((c : Thread nD τ), .dma (sendQ d k))
/-- The receive semaphore of hop `k` in direction `d`, on device `c`. -/
abbrev recvCell (d : Bool) (k : Fin 6) (c : Dev nD) : GSem nD τ sig := ((c : Thread nD τ), .dma (recvQ d k))

/-- What one transfer of a chunk credits. -/
abbrev N : ℕ := (accC false 0).view.dmaCredit
/-- A transfer credits something. -/
theorem N_pos : 0 < N := View.dmaCredit_pos _ (by decide)
/-- A transfer of a chunk of the accumulator credits `N`. -/
theorem credit_acc (d : Bool) (j : Dev nD) : (accC d j).view.dmaCredit = N := rfl
/-- A transfer into a slot credits `N`. -/
theorem credit_slot (d s : Bool) : (slotM d s).view.dmaCredit = N := by cases d <;> rfl

end Cert.KernelIdeal.K

end
-- ==== Proof.Sched.lean ====
/- The values the kernel computes chunk by chunk, what every semaphore cell hands over when it is waited for, what each
   device owes, and the levels that order the waits. -/
module

public import proofs.«01_k».proof.Proof.Ring

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource of the rounds: one for each cell, with the duties `false` and `true`. -/
abbrev UB : Type := URounds (GSem nD τ sig) Bool
/-- The pipeline's resource and that of the rounds. -/
abbrev UU : Type := UR sig nD τ × UB

local notation "𝕄" => MT nD τ sig Unit (Elt F) ℕ UU ℕ

/-- Where the pipeline's resource lies. -/
abbrev EP : Emb (UR sig nD τ) (MT nD τ sig Unit (Elt F) ℕ UU ℕ) := embL
/-- Where the rounds' resource lies. -/
abbrev ER : Emb UB (MT nD τ sig Unit (Elt F) ℕ UU ℕ) := embR

/-! ## Values

`A c` and `B c` are device `c`'s blocks of the two operands. -/

/-- A device's block of the left operand. -/
abbrev ABlk (F : FTy → Type) : Type := Vec F S2048x1024 .f32
/-- A device's block of the right operand. -/
abbrev BBlk (F : FTy → Type) : Type := Vec F S1024x2048 .f32
/-- The contents of a chunk of 256 rows. -/
abbrev Chunk (F : FTy → Type) : Type := Vec F S256x2048 .bf16

/-- Rows of chunk `(d, j)` of a left block. -/
def chunkA (a : ABlk F) (d : Bool) (j : Dev nD) : Vec F S256x1024 .f32 := fun i => a ((rowsA d j).emb i)

/-- The sum of two chunks, as the kernel forms it. -/
def addV (x y : Chunk F) : Chunk F := shapeCast S256x2048 (addf x y : FVec F S256x2048 .bf16) shapeCasts_S256x2048_S256x2048

variable (A : Dev nD → ABlk F) (B : Dev nD → BBlk F)

/-- Device `c`'s own product for chunk `(d, j)`. -/
def part (d : Bool) (j c : Dev nD) : Chunk F := k0_pay3 (chunkA (A c) d j) (k0_pay2 (B c))

/-- The partial sum that device `c` holds before hop `k` of the reduce-scatter in direction `d`. -/
def accV (d : Bool) : ℕ → Dev nD → Chunk F
  | 0, c => part A B d (bkn d 0 c) c
  | k + 1, c => addV (part A B d (bkn d (k + 1) c) c) (accV d k (bk d c))

/-- The finished chunk of direction `d` that device `c` computes, after the activation and the rounding. -/
def gV (d : Bool) (c : Dev nD) : Chunk F := k0_pay21 (accV A B d 3 c)

/-- What device `c` sends at hop `k` in direction `d`. -/
@[reducible] def srcVal (d : Bool) : ℕ → Dev nD → Chunk F
  | 0, c => accV A B d 0 c
  | 1, c => accV A B d 1 c
  | 2, c => accV A B d 2 c
  | n + 3, c => gV A B d (bkn d n c)

/-- Where hop `k` in direction `d` lands on device `c`. -/
@[reducible] def dstM (d : Bool) : ℕ → Dev nD → Memref sig .tc .vmem S256x2048 .bf16
  | 0, _ => slotM d false
  | 1, _ => slotM d true
  | 2, _ => slotM d false
  | n + 3, c => accC d (bkn d n c)

/-- Whatever the hop, its landing credits `N`. -/
theorem credit_dst (d : Bool) (k : ℕ) (c : Dev nD) : (dstM d k c).view.dmaCredit = N := by
  match k with
  | 0 => exact credit_slot d _
  | 1 => exact credit_slot d _
  | 2 => exact credit_slot d _
  | n + 3 => exact credit_acc d _

/-! ## The schedule -/

/-- Device `c` owns `m` at `v`. -/
abbrev own (c : Dev nD) {sh : Shape} {e : EltTy} (m : Memref sig .tc .vmem sh e) (v : sh.Idx → Elt F e) : sProp 𝕄 :=
  owns (c : Thread nD τ) m fullShare v

/-- Device `c` owns the place where hop `k` in direction `d` lands on it, at any contents. -/
def Own (d : Bool) (k : ℕ) (c : Dev nD) : sProp 𝕄 := iprop(∃ v, own (F := F) c (dstM d k c) v)

/-- What comes along with hop `k` in direction `d` from device `e`: the places where later hops in the other direction
    land on `e`. -/
def extra (d : Bool) : ℕ → Dev nD → sProp 𝕄
  | 1, e => iprop(Own (F := F) (!d) 2 e ∗ Own (F := F) (!d) 3 e)
  | 2, e => Own (F := F) (!d) 4 e
  | 3, e => Own (F := F) (!d) 5 e
  | _, _ => iprop(emp)

/-- A barrier unit from `e`, duty `d`: the places where the first two hops in direction `d` land on `e`. -/
def barPay (d : Bool) (e : Dev nD) : sProp 𝕄 := iprop(Own (F := F) d 0 e ∗ Own (F := F) d 1 e)

/-- What device `c` gets from waiting for hop `k` in direction `d` to arrive. -/
def recvPay (d : Bool) (k : ℕ) (c : Dev nD) : sProp 𝕄 :=
  iprop(own c (dstM d k c) (srcVal A B d k (bk d c)) ∗ extra (F := F) d k (bk d c))

/-- What device `c` gets back from waiting for its hop `k` in direction `d` to have left. -/
def sendPay (d : Bool) (k : ℕ) (c : Dev nD) : sProp 𝕄 := own c (accC d (bkn d k c)) (srcVal A B d k c)

/-- A landing place may be kept in an invariant. -/
instance Own_storable (d : Bool) (k : ℕ) (c : Dev nD) : BI.Storable (upEmb : UEmb _ 𝕄) (Own (F := F) d k c) := by unfold Own; infer_instance
/-- What comes along with a hop may be kept in an invariant. -/
instance extra_storable (d : Bool) (k : ℕ) (c : Dev nD) : BI.Storable (upEmb : UEmb _ 𝕄) (extra (F := F) d k c) := by
  unfold extra; split <;> infer_instance
/-- A barrier unit's payload may be kept in an invariant. -/
instance barPay_storable (d : Bool) (c : Dev nD) : BI.Storable (upEmb : UEmb _ 𝕄) (barPay (F := F) d c) := by unfold barPay; infer_instance
/-- A landing's payload may be kept in an invariant. -/
instance recvPay_storable (d : Bool) (k : ℕ) (c : Dev nD) : BI.Storable (upEmb : UEmb _ 𝕄) (recvPay A B d k c) := by unfold recvPay; infer_instance
/-- A departure's payload may be kept in an invariant. -/
instance sendPay_storable (d : Bool) (k : ℕ) (c : Dev nD) : BI.Storable (upEmb : UEmb _ 𝕄) (sendPay A B d k c) := by unfold sendPay; infer_instance

/-- Which transfer a DMA semaphore belongs to: (whether it is a receive semaphore, direction, hop). -/
def xferOf (q : DmaSem sig) : Option (Bool × Bool × Fin 6) :=
  if 15 ≤ q.val then some (true, decide (21 ≤ q.val), ⟨(q.val - 15) % 6, Nat.mod_lt _ (by decide)⟩)
  else if 3 ≤ q.val then some (false, decide (9 ≤ q.val), ⟨(q.val - 3) % 6, Nat.mod_lt _ (by decide)⟩)
  else none

/-- The receive semaphore of hop `k` in direction `d` belongs to that transfer. -/
theorem xferOf_recv (d : Bool) (k : Fin 6) : xferOf (recvQ d k) = some (true, d, k) := by revert d k; decide
/-- The send semaphore of hop `k` in direction `d` belongs to that transfer. -/
theorem xferOf_send (d : Bool) (k : Fin 6) : xferOf (sendQ d k) = some (false, d, k) := by revert d k; decide

/-- What a transfer's semaphore hands over on device `c`. -/
def xferPay (x : Option (Bool × Bool × Fin 6)) (c : Dev nD) : sProp 𝕄 := match x with
  | some (true, d, k) => recvPay A B d k c
  | some (false, d, k) => sendPay A B d k c
  | none => iprop(emp)

/-- A transfer's payload may be kept in an invariant. -/
instance xferPay_storable (x : Option (Bool × Bool × Fin 6)) (c : Dev nD) : BI.Storable (upEmb : UEmb _ 𝕄) (xferPay A B x c) := by
  unfold xferPay; split <;> infer_instance

/-- One round. A barrier cell has the duties `false` and `true` of one unit each, paid by the next device in that
    direction; a transfer's cell has the duty `false` of one chunk's credit. -/
def Rd : Rounds.Schedule (GSem nD τ sig) Bool 𝕄 where
  duties g r := if r = 0 ∧ g.1.2 = .tc then
    (match g.2 with | .reg s => if s = barS then Finset.univ else ∅ | .dma q => if (xferOf q).isSome then {false} else ∅) else ∅
  unitless _ := False
  amount g _ _ := match g.2 with | .reg _ => 1 | .dma _ => N
  payload g _ dd := match g.2 with
    | .reg _ => barPay (F := F) dd (fwd dd g.1.1)
    | .dma q => xferPay A B (xferOf q) g.1.1
  amount_pos g _ _ _ := by
    cases g.2 with
    | reg _ => exact Nat.one_pos
    | dma _ => exact N_pos

/-- Every payload of the schedule may be kept in an invariant. -/
instance Rd_payload_storable (g : GSem nD τ sig) (r : ℕ) (d : Bool) : BI.Storable (upEmb : UEmb _ 𝕄) ((Rd A B).payload g r d) := by
  dsimp only [Rd]; split <;> infer_instance

section Tables
variable (c : Dev nD) (d : Bool) (k : Fin 6)

/-- The barrier has both duties in its round. -/
theorem duties_bar : (Rd A B).duties (barCell c) 0 = Finset.univ := by dsimp only [Rd]; rw [if_pos ⟨rfl, rfl⟩, if_pos rfl]
/-- A send cell has one duty in its round. -/
theorem duties_send : (Rd A B).duties (sendCell d k c) 0 = {false} := by
  dsimp only [Rd]; rw [if_pos ⟨rfl, rfl⟩, xferOf_send]; rfl
/-- A receive cell has one duty in its round. -/
theorem duties_recv : (Rd A B).duties (recvCell d k c) 0 = {false} := by
  dsimp only [Rd]; rw [if_pos ⟨rfl, rfl⟩, xferOf_recv]; rfl
/-- No cell has a duty after its first round. -/
theorem duties_later (g : GSem nD τ sig) : ∀ r, 1 ≤ r → (Rd A B).duties g r = ∅ :=
  fun r hr => by dsimp only [Rd]; rw [if_neg fun h => by omega]

/-- A barrier's duty pays one unit. -/
theorem amount_bar (dd : Bool) : (Rd A B).amount (barCell c) 0 dd = 1 := rfl
/-- A transfer's duty pays one chunk's credit. -/
theorem amount_dma (t : Thread nD τ) (q : DmaSem sig) (dd : Bool) : (Rd A B).amount (t, .dma q) 0 dd = N := rfl

/-- The barrier's round is complete at two units. -/
theorem expect_bar : (Rd A B).expect (barCell c) 0 = 2 := by
  unfold Schedule.expect Schedule.amountOf
  rw [duties_bar, Finset.sum_congr rfl fun d _ => amount_bar A B c d, Finset.sum_const, Finset.card_univ, Fintype.card_bool, smul_eq_mul]
/-- A send cell's round is complete at one chunk's credit. -/
theorem expect_send : (Rd A B).expect (sendCell d k c) 0 = N := by
  unfold Schedule.expect Schedule.amountOf; rw [duties_send, Finset.sum_singleton, amount_dma]
/-- A receive cell's round is complete at one chunk's credit. -/
theorem expect_recv : (Rd A B).expect (recvCell d k c) 0 = N := by
  unfold Schedule.expect Schedule.amountOf; rw [duties_recv, Finset.sum_singleton, amount_dma]

/-- What a barrier unit hands over: the landing places on the device that pays it. -/
theorem payload_bar (dd : Bool) : (Rd A B).payload (barCell c) 0 dd = barPay (F := F) dd (fwd dd c) := rfl
/-- What a send cell hands over: the chunk that has left. -/
theorem payload_send (dd : Bool) : (Rd A B).payload (sendCell d k c) 0 dd = sendPay A B d k c := by
  show xferPay A B (xferOf (sendQ d k)) c = _; rw [xferOf_send]; rfl
/-- What a receive cell hands over: the chunk that has landed, and what comes along. -/
theorem payload_recv (dd : Bool) : (Rd A B).payload (recvCell d k c) 0 dd = recvPay A B d k c := by
  show xferPay A B (xferOf (recvQ d k)) c = _; rw [xferOf_recv]; rfl

/-- What waiting on the barrier yields: both neighbours' landing places. -/
theorem rest_bar : bigSep ((Rd A B).duties (barCell c) 0 \ ∅) (fun dd => (Rd A B).payload (barCell c) 0 dd)
    = iprop(barPay (F := F) false (fwd false c) ∗ barPay (F := F) true (fwd true c)) := by
  rw [Finset.sdiff_empty, duties_bar, bigSep_univ_eq_bigSepL [false, true] (by decide) (by decide), bigSepL_cons_cons, bigSepL_singleton,
    payload_bar, payload_bar]
  rfl
/-- What waiting on a send cell yields: the chunk that has left. -/
theorem rest_send : bigSep ((Rd A B).duties (sendCell d k c) 0 \ ∅) (fun dd => (Rd A B).payload (sendCell d k c) 0 dd) = sendPay A B d k c := by
  rw [Finset.sdiff_empty, duties_send, bigSep_singleton, payload_send]
/-- What waiting on a receive cell yields: the chunk that has landed, and what comes along. -/
theorem rest_recv : bigSep ((Rd A B).duties (recvCell d k c) 0 \ ∅) (fun dd => (Rd A B).payload (recvCell d k c) 0 dd) = recvPay A B d k c := by
  rw [Finset.sdiff_empty, duties_recv, bigSep_singleton, payload_recv]

end Tables

/-! ## What each device owes; the levels -/

/-- Hop `n` counted from the last: `hop 0` is the sixth. -/
abbrev hop (n : ℕ) : Fin 6 := ⟨5 - n, by omega⟩

/-- What device `c` owes once only its last `n` hops remain. -/
def OR (c : Dev nD) : ℕ → CellTallies nD τ sig Unit
  | 0 => 0
  | n + 1 => OR c n + tallyAt (recvCell true (hop n) (fwd true c)) () N + tallyAt (recvCell false (hop n) (fwd false c)) () N

/-- What device `c` owes after its first barrier signal, and at launch. -/
def O₁ (c : Dev nD) : CellTallies nD τ sig Unit := OR c 6 + tallyAt (barCell (fwd false c)) () 1
/-- What device `c` owes at the start: every hop of its two rings and a unit to each neighbour's barrier. -/
def O₀ (c : Dev nD) : CellTallies nD τ sig Unit := O₁ c + tallyAt (barCell (fwd true c)) () 1

/-- The labels of a cell: one on a core's cells, none elsewhere. -/
def L (g : GSem nD τ sig) : Finset Unit := if g.1.2 = .tc then {()} else ∅
/-- A transfer's level. -/
def lvX (x : Option (Bool × Bool × Fin 6)) : ℕ := match x with
  | some (true, _, k) => 2 + k.val
  | _ => 0
/-- Barrier cells at 1, receive cells at 2 and the hop's number, all others at 0. -/
def lv (g : GSem nD τ sig) (_ : Unit) : ℕ := match g.2 with
  | .reg _ => 1
  | .dma q => lvX (xferOf q)

/-- The receive cell of hop `k` is at level `2 + k`. -/
theorem lv_recv (d : Bool) (k : Fin 6) (c : Dev nD) : lv (recvCell d k c) () = 2 + k.val := by
  show lvX (xferOf (recvQ d k)) = _; rw [xferOf_recv]; rfl
/-- The send cells are at level 0. -/
theorem lv_send (d : Bool) (k : Fin 6) (c : Dev nD) : lv (sendCell d k c) () = 0 := by
  show lvX (xferOf (sendQ d k)) = _; rw [xferOf_send]; rfl

/-- A cell that is not a core's has no label. -/
theorem L_of_ne (g : GSem nD τ sig) (h : g.1.2 ≠ .tc) : L g = ∅ := if_neg h
/-- A core's cell has one label. -/
theorem L_tc (c : Dev nD) (sm : SemLoc sig) : L ((c : Thread nD τ), sm) = {()} := if_pos rfl

/-- Whatever device `c` owes when `n` hops remain is to a receive cell of one of those hops. -/
theorem OR_pos {c : Dev nD} {n : ℕ} {g : GSem nD τ sig} {u : Unit} (h : 0 < OR c n g u) :
    ∃ d, ∃ k : Fin 6, 6 ≤ n + k.val ∧ g = recvCell d k (fwd d c) := by
  induction n with
  | zero => exact absurd h (Nat.lt_irrefl 0)
  | succ n ih =>
    unfold OR at h
    rw [Pi.add_apply, Finsupp.add_apply, Pi.add_apply, Finsupp.add_apply, tallyAt_apply, tallyAt_apply] at h
    by_cases h1 : g = recvCell true (hop n) (fwd true c)
    · exact ⟨true, hop n, by simp only [hop]; omega, h1⟩
    by_cases h2 : g = recvCell false (hop n) (fwd false c)
    · exact ⟨false, hop n, by simp only [hop]; omega, h2⟩
    rw [if_neg (fun h' => h1 h'.1), if_neg (fun h' => h2 h'.1)] at h
    obtain ⟨d, k, hk, hg⟩ := ih h
    exact ⟨d, k, by omega, hg⟩

/-- What a device owes at the start is owed to a receive cell or to the barrier of a neighbour. -/
theorem O₀_pos {c : Dev nD} {g : GSem nD τ sig} {u : Unit} (h : 0 < O₀ c g u) :
    (∃ d, ∃ k : Fin 6, g = recvCell d k (fwd d c)) ∨ ∃ d, g = barCell (fwd d c) := by
  unfold O₀ O₁ at h
  rw [Pi.add_apply, Finsupp.add_apply, Pi.add_apply, Finsupp.add_apply, tallyAt_apply, tallyAt_apply] at h
  by_cases h1 : g = barCell (fwd true c)
  · exact .inr ⟨true, h1⟩
  by_cases h2 : g = barCell (fwd false c)
  · exact .inr ⟨false, h2⟩
  rw [if_neg (fun h' => h2 h'.1), if_neg (fun h' => h1 h'.1)] at h
  obtain ⟨d, k, -, hg⟩ := OR_pos (c := c) (n := 6) (g := g) (u := u) h
  exact .inl ⟨d, k, hg⟩

/-- A device may wait for one of its cells below the receive cells of all hops it still owes. -/
theorem mayWait_OR (c : Dev nD) (sm : SemLoc sig) (n : ℕ) (h : lv ((c : Thread nD τ), sm) () + n < 8) :
    (levAts L lv : sProp 𝕄) ⊢ MayWait (c : Thread nD τ) sm () (OR c n) :=
  MayOwe.of_cut (L := L) (lev := lv) (lv ((c : Thread nD τ), sm) ()) (fun p hp => by rw [Finset.mem_singleton.mp hp, L_tc]; exact Finset.mem_singleton_self _)
    (fun g u hg => by obtain ⟨d, k, -, rfl⟩ := OR_pos hg; exact Finset.mem_singleton_self _)
    (fun p hp => by rw [Finset.mem_singleton.mp hp])
    (fun g u hg => by obtain ⟨d, k, hk, rfl⟩ := OR_pos hg; rw [lv_recv]; omega)

/-- A device may wait for a staging transfer while it owes everything. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; exact hq.le)
      (fun g u hg => by
        rcases O₀_pos hg with ⟨d, k, rfl⟩ | ⟨d, rfl⟩
        · rw [lv_recv]; omega
        · exact Nat.one_pos)
  · rw [MayWait_zero]; iintro -; iempintro

end Cert.KernelIdeal.K

end
-- ==== Proof.Steps.lean ====
/- One rule per kind of effect of the kernel's body: loads and stores of chunks and slots, a barrier signal and wait, the
   start of a hop, and the waits for a hop to leave and to arrive. -/
module

public import proofs.«01_k».proof.Proof.Sched

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the body needs a measure. -/
abbrev 𝒱₀ : Variants := Variants.none

/-- The weakest precondition of a program on device `c`'s TensorCore. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (A : Dev nD → ABlk F) (B : Dev nD → BBlk F)

/-! ## The shared records -/

/-- The semaphores the kernel uses, in one list: the barrier, the send semaphores, the receive semaphores. -/
def csem (i : Fin 25) : SemLoc sig := if h : i.val = 0 then .reg barS else .dma ⟨2 + i.val, by have := i.isLt; show 2 + i.val < 27; omega⟩
/-- The number of the send cell of hop `k` in direction `d` among a device's 25 cells. -/
abbrev sendIx (d : Bool) (k : Fin 6) : Fin 25 := ⟨1 + 6 * d.toNat + k.val, by revert d k; decide⟩
/-- The number of the receive cell of hop `k` in direction `d` among a device's 25 cells. -/
abbrev recvIx (d : Bool) (k : Fin 6) : Fin 25 := ⟨13 + 6 * d.toNat + k.val, by revert d k; decide⟩
/-- The cell with a send cell's number is that send semaphore. -/
theorem csem_send (d : Bool) (k : Fin 6) : csem (sendIx d k) = .dma (sendQ d k) := by revert d k; decide
/-- The cell with a receive cell's number is that receive semaphore. -/
theorem csem_recv (d : Bool) (k : Fin 6) : csem (recvIx d k) = .dma (recvQ d k) := by revert d k; decide

/-- Device `p.1`'s cell at the semaphore `p.2`. -/
abbrev kcell (p : Dev nD × Fin 25) : GSem nD τ sig := ((p.1 : Thread nD τ), csem p.2)

/-- What every device knows: all cells' invariants, that each is at round 0 at least, and the levels. -/
def Ctx (K : Dev nD × Fin 25 → ℕ) : sProp 𝕄 :=
  iprop((bigSep Finset.univ fun p : Dev nD × Fin 25 => cellInv ER (Rd A B) (K p) (kcell p))
    ∗ (bigSep Finset.univ fun p : Dev nD × Fin 25 => reached ER (kcell p) 0) ∗ levAts L lv)

/-- The context may be used any number of times. -/
instance Ctx_persistent (K : Dev nD × Fin 25 → ℕ) : BI.Persistent (Ctx A B K) := by unfold Ctx; infer_instance

variable (K : Dev nD × Fin 25 → ℕ)

/-- The invariant of one cell out of all cells' invariants. -/
theorem inv_at (p : Dev nD × Fin 25) :
    (bigSep Finset.univ fun p : Dev nD × Fin 25 => (cellInv ER (Rd A B) (K p) (kcell p) : sProp 𝕄)) ⊢ cellInv ER (Rd A B) (K p) (kcell p) :=
  bigSep_elim (Finset.mem_univ p)
/-- The reached round of one cell out of those of all cells. -/
theorem reached_at (p : Dev nD × Fin 25) :
    (bigSep Finset.univ fun p : Dev nD × Fin 25 => (reached ER (kcell p) 0 : sProp 𝕄)) ⊢ reached ER (kcell p) 0 :=
  bigSep_elim (Finset.mem_univ p)
/-- The invariant and the reached round of a cell, out of the context. -/
theorem Ctx_cell (p : Dev nD × Fin 25) : Ctx A B K ⊢ iprop(cellInv ER (Rd A B) (K p) (kcell p) ∗ reached ER (kcell p) 0) := by
  unfold Ctx; iintro ⟨H1, H2, -⟩
  isplitl [H1]
  · iapply (inv_at A B K p); iexact H1
  · iapply (reached_at (F := F) p); iexact H2
/-- The same for the barrier of a device. -/
theorem Ctx_bar (c : Dev nD) : Ctx A B K ⊢ iprop(cellInv ER (Rd A B) (K (c, 0)) (barCell c) ∗ reached ER (barCell c) 0) :=
  Ctx_cell A B K (c, 0)
/-- The same for a send cell. -/
theorem Ctx_send (d : Bool) (k : Fin 6) (c : Dev nD) :
    Ctx A B K ⊢ iprop(cellInv ER (Rd A B) (K (c, sendIx d k)) (sendCell d k c) ∗ reached ER (sendCell d k c) 0) := by
  have h := Ctx_cell A B K (c, sendIx d k); rwa [show kcell (c, sendIx d k) = sendCell d k c from congrArg _ (csem_send d k)] at h
/-- The same for a receive cell. -/
theorem Ctx_recv (d : Bool) (k : Fin 6) (c : Dev nD) :
    Ctx A B K ⊢ iprop(cellInv ER (Rd A B) (K (c, recvIx d k)) (recvCell d k c) ∗ reached ER (recvCell d k c) 0) := by
  have h := Ctx_cell A B K (c, recvIx d k); rwa [show kcell (c, recvIx d k) = recvCell d k c from congrArg _ (csem_recv d k)] at h
/-- The levels, out of the context. -/
theorem Ctx_lev : Ctx A B K ⊢ (levAts L lv : sProp 𝕄) := by unfold Ctx; iintro ⟨-, -, H⟩; iexact H

/-- Device `c` owes `O`. -/
def Ow (c : Dev nD) (O : CellTallies nD τ sig Unit) : sProp 𝕄 := iprop(∃ W, owes (c : Thread nD τ) O W)

/-- What the start of hop `k` in direction `d` uses up: both duties' tokens and the position at the send cell. -/
def tokS (d : Bool) (k : Fin 6) (c : Dev nD) : sProp 𝕄 :=
  iprop(dutyTok ER (sendCell d k c) 0 false ∗ dutyTok ER (recvCell d k (fwd d c)) 0 false ∗ atPos ER (sendCell d k c) 0 ∅ 0)
/-- Hop `k` in direction `d` is under way from `c`. -/
def outS (d : Bool) (k : Fin 6) (c : Dev nD) : sProp 𝕄 :=
  iprop(cred (tallyAt (sendCell d k c) () N) ∗ atPos ER (sendCell d k c) 0 ∅ 0)
/-- What the wait for hop `k` in direction `d` to arrive on `c` uses up. -/
def tokR (d : Bool) (k : Fin 6) (c : Dev nD) : sProp 𝕄 :=
  iprop(cred (tallyAt (recvCell d k c) () N) ∗ atPos ER (recvCell d k c) 0 ∅ 0)

/-- The end of a part. -/
theorem step_ret (c : Dev nD) {α : Type} (v : α) {Q : α → sProp 𝕄} : Q v ⊢ wpc c (.ret v) Q := le_wp_ret _ _ _ _ _

/-! ## Loads and stores -/

section Mem
variable (c : Dev nD) {α : Type}

/-- A load of a rectangle owned as a slice. -/
theorem step_load {s : Shape} {e : EltTy} (M : Memref sig .tc .vmem s e) {off off' : Fin s.rank → ℕ} {size : Fin s.rank → ℕ}
    {inb : ∀ a, off a + size a ≤ s.size a} {inb' : ∀ a, off' a + size a ≤ s.size a} (h : off = off')
    {hl : M.view.LoadsAt (Rect.unit off size inb).toLoadRect} (v : (Rect.unit off' size inb').shape.Idx → Elt F e)
    {kk : ((Rect.unit off size inb).shape.Idx → Elt F e) → Prog (TpuEff nD τ sig (Elt F) Λ₀ .tc) α} {Q : α → sProp 𝕄} :
    own c (M.slice (Rect.unit off' size inb') (fun _ => rfl)) v
      ⊢ iprop((own c (M.slice (Rect.unit off' size inb') (fun _ => rfl)) v -∗ wpc c (kk v) Q)
          -∗ wpc c (.op (.load M (Rect.unit off size inb).toLoadRect hl) kk) Q) := by
  subst h
  unfold own owns
  iintro ⟨%f, %hf, H⟩ Hk
  iapply (wp_load_rect 𝒱₀ (c : Thread nD τ) none Set.univ (m := M) (Finset.Subset.refl _)) $$ H
  iintro H
  rw [show (M.access (Rect.unit off size inb)).read (Elt F) f = v from hf]
  iapply Hk
  iexists f; isplitr
  · ipureintro; exact hf
  · iexact H

/-- A store to a rectangle owned as a slice. -/
theorem step_store {s : Shape} {e : EltTy} (M : Memref sig .tc .vmem s e) {off off' : Fin s.rank → ℕ} {size : Fin s.rank → ℕ}
    {inb : ∀ a, off a + size a ≤ s.size a} {inb' : ∀ a, off' a + size a ≤ s.size a} (h : off = off')
    {w : (Rect.unit off size inb).shape.Idx → Elt F e} {hx : (M.access (Rect.unit off size inb)).Stores Finset.univ}
    {hm : Finset.univ = Finset.univ ∨ ∀ a, (Rect.unit off size inb).stride a = 1} (v : (Rect.unit off' size inb').shape.Idx → Elt F e)
    {kk : PUnit → Prog (TpuEff nD τ sig (Elt F) Λ₀ .tc) α} {Q : α → sProp 𝕄} :
    own c (M.slice (Rect.unit off' size inb') (fun _ => rfl)) v
      ⊢ iprop((own c (M.slice (Rect.unit off' size inb') (fun _ => rfl)) w -∗ wpc c (kk ⟨⟩) Q)
          -∗ wpc c (.op (.store M (Rect.unit off size inb) w Finset.univ hx hm) kk) Q) := by
  subst h
  unfold own owns
  iintro ⟨%f, %hf, H⟩ Hk
  iapply (wp_store 𝒱₀ (c : Thread nD τ) none Set.univ (m := M) (r := Rect.unit off size inb) (w := w) (Mk := Finset.univ)
    (S := (M.access (Rect.unit off size inb)).set) (Finset.Subset.refl _)) $$ H
  iintro H
  iapply Hk
  iexists _; isplitr [H]
  swap; · iexact H
  ipureintro; exact View.read_write_univ _ _

/-- A load of a chunk of rows of the left block. -/
theorem step_loadA (d : Bool) (j : Dev nD) {off : Fin 2 → ℕ} {inb : ∀ a, off a + S256x1024.size a ≤ S2048x1024.size a} (h : off = rowOff d j)
    {hl : aM.view.LoadsAt (Rect.unit (s := S2048x1024) off S256x1024.size inb).toLoadRect} (a : ABlk F)
    {kk : (S256x1024.Idx → Elt F .f32) → Prog (TpuEff nD τ sig (Elt F) Λ₀ .tc) α} {Q : α → sProp 𝕄} :
    own c aM a ⊢ iprop((own c aM a -∗ wpc c (kk (chunkA a d j)) Q)
          -∗ wpc c (.op (.load aM (Rect.unit (s := S2048x1024) off S256x1024.size inb).toLoadRect hl) kk) Q) := by
  subst h
  unfold own; rw [owns_whole]
  iintro H Hk
  iapply (wp_load 𝒱₀ (c : Thread nD τ) none Set.univ (m := aM) (Finset.subset_univ _)) $$ H
  iintro H
  iapply Hk; iexact H

/-- The printed offset of a whole array is zero on both axes. -/
theorem hz2 : (![0, 0] : Fin 2 → ℕ) = fun _ => 0 := funext fun a => by fin_cases a <;> rfl

/-- A load of the right block. -/
theorem step_loadB {inb : ∀ a, (![0, 0] : Fin 2 → ℕ) a + S1024x2048.size a ≤ S1024x2048.size a}
    {hl : bM.view.LoadsAt (Rect.unit (s := S1024x2048) ![0, 0] S1024x2048.size inb).toLoadRect} (v : Vec F S1024x2048 .f32)
    {kk : (S1024x2048.Idx → Elt F .f32) → Prog (TpuEff nD τ sig (Elt F) Λ₀ .tc) α} {Q : α → sProp 𝕄} :
    own c bM v ⊢ iprop((own c bM v -∗ wpc c (kk v) Q)
          -∗ wpc c (.op (.load bM (Rect.unit (s := S1024x2048) ![0, 0] S1024x2048.size inb).toLoadRect hl) kk) Q) := by
  unfold own; rw [owns_whole]
  iintro H Hk
  iapply (wp_load 𝒱₀ (c : Thread nD τ) none Set.univ (m := bM) (Finset.subset_univ _)) $$ H
  iintro H
  rw [show bM.view.readAt (Elt F) (Rect.unit (s := S1024x2048) ![0, 0] S1024x2048.size inb).toLoadRect v = v from
    Memref.readAt_unit_zero (Elt F) cc0_stg1_0 hz2 inb v]
  iapply Hk; iexact H

/-- A load of the rounded right block. -/
theorem step_load16 {inb : ∀ a, (![0, 0] : Fin 2 → ℕ) a + S1024x2048.size a ≤ S1024x2048.size a}
    {hl : b16M.view.LoadsAt (Rect.unit (s := S1024x2048) ![0, 0] S1024x2048.size inb).toLoadRect} (v : Vec F S1024x2048 .bf16)
    {kk : (S1024x2048.Idx → Elt F .bf16) → Prog (TpuEff nD τ sig (Elt F) Λ₀ .tc) α} {Q : α → sProp 𝕄} :
    own c b16M v ⊢ iprop((own c b16M v -∗ wpc c (kk v) Q)
          -∗ wpc c (.op (.load b16M (Rect.unit (s := S1024x2048) ![0, 0] S1024x2048.size inb).toLoadRect hl) kk) Q) := by
  unfold own; rw [owns_whole]
  iintro H Hk
  iapply (wp_load 𝒱₀ (c : Thread nD τ) none Set.univ (m := b16M) (Finset.subset_univ _)) $$ H
  iintro H
  rw [show b16M.view.readAt (Elt F) (Rect.unit (s := S1024x2048) ![0, 0] S1024x2048.size inb).toLoadRect v = v from
    Memref.readAt_unit_zero (Elt F) cc0_scratch1 hz2 inb v]
  iapply Hk; iexact H

/-- The store of the rounded right block. -/
theorem step_store16 {inb : ∀ a, (![0, 0] : Fin 2 → ℕ) a + S1024x2048.size a ≤ S1024x2048.size a}
    {w : S1024x2048.Idx → Elt F .bf16} {hx : (b16M.access (Rect.unit (s := S1024x2048) ![0, 0] S1024x2048.size inb)).Stores Finset.univ}
    {hm : Finset.univ = Finset.univ ∨ ∀ a, (Rect.unit (s := S1024x2048) ![0, 0] S1024x2048.size inb).stride a = 1} (v : Vec F S1024x2048 .bf16)
    {kk : PUnit → Prog (TpuEff nD τ sig (Elt F) Λ₀ .tc) α} {Q : α → sProp 𝕄} :
    own c b16M v ⊢ iprop((own c b16M w -∗ wpc c (kk ⟨⟩) Q)
          -∗ wpc c (.op (.store b16M (Rect.unit (s := S1024x2048) ![0, 0] S1024x2048.size inb) w Finset.univ hx hm) kk) Q) := by
  unfold own; rw [owns_whole, owns_whole]
  iintro H Hk
  iapply (wp_store 𝒱₀ (c : Thread nD τ) none Set.univ (m := b16M) (r := Rect.unit (s := S1024x2048) ![0, 0] S1024x2048.size inb) (w := w) (Mk := Finset.univ)
    (S := Finset.univ) (Finset.subset_univ _)) $$ H
  iintro H
  rw [show (b16M.access (Rect.unit (s := S1024x2048) ![0, 0] S1024x2048.size inb)).write (Elt F) v w Finset.univ = w from
    Memref.write_access_unit_zero_univ (Elt F) cc0_scratch1 hz2 inb v w]
  iapply Hk; iexact H

/-- A chunk laid out as one slot of a landing buffer. -/
def unsq (v : Chunk F) : Vec F S1x256x2048 .bf16 := fun i => v ((Shape.reshapeEquiv shapeCasts_S1x256x2048_S256x2048).symm i)

/-- A leading axis put on a chunk and taken off again changes nothing. -/
theorem shapeCast_unsq (v : Chunk F) : shapeCast S256x2048 (unsq v) shapeCasts_S1x256x2048_S256x2048 = v := by
  funext i
  show v ((Shape.reshapeEquiv _).symm (Shape.reshapeEquiv _ i)) = v i
  rw [Equiv.symm_apply_apply]

/-- The kernel's sum of a chunk and a landed slot. -/
theorem pay8_unsq (x y : Chunk F) : k0_pay8 x (unsq y) = addV x y := by
  unfold k0_pay8 addV
  dsimp only
  rw [shapeCast_unsq]

/-- A load of one slot of a landing buffer. -/
theorem step_loadS (d s : Bool) {off : Fin 3 → ℕ} {inb : ∀ a, off a + S1x256x2048.size a ≤ S2x256x2048.size a} (h : off = slotOff s)
    {hl : (commM d).view.LoadsAt (Rect.unit (s := S2x256x2048) off S1x256x2048.size inb).toLoadRect} (v : Chunk F)
    {kk : (S1x256x2048.Idx → Elt F .bf16) → Prog (TpuEff nD τ sig (Elt F) Λ₀ .tc) α} {Q : α → sProp 𝕄} :
    own c (slotM d s) v ⊢ iprop((own c (slotM d s) v -∗ wpc c (kk (unsq v)) Q)
          -∗ wpc c (.op (.load (commM d) (Rect.unit (s := S2x256x2048) off S1x256x2048.size inb).toLoadRect hl) kk) Q) := by
  subst h
  unfold own owns
  iintro ⟨%f, %hf, H⟩ Hk
  have hset : ((commM d).access (slot s)).set = (slotM d s).view.set := (View.set_reshape _ _).symm
  iapply (wp_load_rect 𝒱₀ (c : Thread nD τ) none Set.univ (m := commM d) (r := slot s) (S := (slotM d s).view.set) hset.le) $$ H
  iintro H
  rw [show ((commM d).access (slot s)).read (Elt F) f = unsq v from by
    subst hf; unfold unsq
    funext i
    show _ = (slotM d s).view.read (Elt F) f _
    simp only [View.read_apply]
    show _ = cast _ (f (((commM d).access (slot s)).emb (Shape.reshapeEquiv _ ((Shape.reshapeEquiv _).symm i))))
    rw [Equiv.apply_symm_apply]]
  iapply Hk
  iexists f; isplitr
  · ipureintro; exact hf
  · iexact H

end Mem

/-- The printed slice of the accumulator at chunk `(d, j)`'s offset. -/
theorem accC_of {d : Bool} {j : Dev nD} {off : Fin 2 → ℕ} {inb : ∀ a, off a + S256x2048.size a ≤ S2048x2048.size a} (h : off = rowOff d j) :
    accM.slice (Rect.unit (s := S2048x2048) off S256x2048.size inb) (fun _ => rfl) = accC d j := by subst h; rfl

/-- `n` steps back from the device ahead are `n + 3` steps back. -/
theorem bkn_fwd3 (d : Bool) (n : ℕ) (c : Dev nD) : bkn d n (fwd d c) = bkn d (n + 3) c := by
  rw [← bkn_four d n (fwd d c)]; exact bkn_fwd d (n + 3) c

/-! ## Semaphores -/

section Sems
variable (c : Dev nD) {α : Type}

/-- A barrier signal to the neighbour in direction `d`: it passes on the places where the other direction's first two hops
    land on `c`. -/
theorem step_signal (d d' : Bool) (hd : (!d) = d') {n : Dev nD} (hn : n = fwd d c) {s : Sem sig} (hs : s = barS) {w : ℕ} (hw : w = 1)
    {O O' : CellTallies nD τ sig Unit} (hO : O' = O + tallyAt (barCell (fwd d c)) () 1)
    {kk : PUnit → Prog (TpuEff nD τ sig (Elt F) Λ₀ .tc) α} {Q : α → sProp 𝕄} :
    Ctx A B K ⊢ iprop(Ow c O' -∗ dutyTok ER (barCell (fwd d c)) 0 d' -∗ Own (F := F) d' 0 c -∗ Own (F := F) d' 1 c
      -∗ (Ow c O -∗ wpc c (kk ⟨⟩) Q) -∗ wpc c (.op (.semSignal (n : Thread nD τ) s w) kk) Q) := by
  subst hd hn hs hw
  unfold Ow
  iintro #HC ⟨%W, HO⟩ Ht H0 H1 Hk
  ihave ⟨#HI, #HR⟩ := (Ctx_bar A B K (fwd d c)) $$ HC
  iapply (Rounds.wp_signal 𝒱₀ ER (Rd A B) (c : Thread nD τ) none (dst := (fwd d c : Thread nD τ)) (κ := K (fwd d c, 0)) (r := 0)
      (d := !d) (by rw [duties_bar]; exact Finset.mem_univ _) (amount_bar A B (fwd d c) (!d)) () O hO (W := W))
    $$ [HO Ht H0 H1]
  · isplitr; · iexact HI
    isplitl [HO]; · iexact HO
    isplitl [Ht]; · iexact Ht
    isplitl [H0 H1]
    · rw [payload_bar, fwd_not, bk_fwd]; unfold barPay
      isplitl [H0] <;> iassumption
    iexact HR
  iintro HO
  iapply Hk
  iexists W; iexact HO

/-- The barrier wait: the places where the first two hops of either direction land on the neighbours. -/
theorem step_barwait {s : Sem sig} (hs : s = barS) {w : ℕ} (hw : w = 2)
    {kk : PUnit → Prog (TpuEff nD τ sig (Elt F) Λ₀ .tc) α} {Q : α → sProp 𝕄} :
    Ctx A B K ⊢ iprop(Ow c (OR c 6) -∗ cred (tallyAt (barCell c) () 2) -∗ atPos ER (barCell c) 0 ∅ 0
      -∗ ((Ow c (OR c 6) ∗ semVal (barCell c) 0 ∗ barPay (F := F) false (fwd false c) ∗ barPay (F := F) true (fwd true c)) -∗ wpc c (kk ⟨⟩) Q)
      -∗ wpc c (.op (.semWait s w) kk) Q) := by
  subst hs hw
  unfold Ow
  iintro #HC ⟨%W, HO⟩ Hc Hat Hk
  ihave ⟨#HI, -⟩ := (Ctx_bar A B K c) $$ HC
  iapply (Rounds.wp_wait_rest_token 𝒱₀ ER (Rd A B) (c : Thread nD τ) none (κ := K (c, 0))
      (wpE_semWait_eq 𝒱₀ (c : Thread nD τ) none Set.univ) (Set.mem_univ _) () (O := OR c 6) (W := W) (R := 0) (m := 0) (T := ∅)
      (by rw [expect_bar])) $$ [Hc HO Hat]
  · isplitr; · iexact HI
    isplitl [Hc]; · iexact Hc
    isplitl [HO]; · iexact HO
    isplitr
    · iapply (mayWait_OR c (.reg barS) 6 (by show 1 + 6 < 8; decide)); iapply (Ctx_lev A B K); iexact HC
    iexact Hat
  iintro ⟨HO, Hat, -, Hpay⟩
  ihave Hp := (Entails.of_eq (rest_bar A B c)) $$ Hpay
  icases Hp with ⟨H0, H1⟩
  imod (Rounds.cell_close ER (Rd A B) (Set.mem_univ (K (c, 0))) (fun h => h) (R := 0 + 1) (duties_later A B (barCell c))) $$ [Hat] with Hz
  · isplitr; · iexact HI
    iexact Hat
  iapply Hk
  isplitl [HO]; · iexists _; iexact HO
  isplitl [Hz]; · iexact Hz
  isplitl [H0] <;> iassumption

/-- The start of hop `k` in direction `d`. -/
theorem step_send (d : Bool) (k : Fin 6) (k₀ : ℕ) (hk : k.val = k₀) {n : Dev nD} (hn : n = fwd d c) {src dst : Memref sig .tc .vmem S256x2048 .bf16}
    (hsrc : src = accC d (bkn d k₀ c)) (hdst : dst = dstM d k₀ (fwd d c)) {sS sR : DmaSem sig} (hS : sS = sendQ d k) (hR : sR = recvQ d k)
    {O O' : CellTallies nD τ sig Unit} (hO : O' = O + tallyAt (recvCell d k (fwd d c)) () N)
    {hsc : dst.view.ref.isScScratch = false} {h1 : src.view.WordExact} {h2 : dst.view.WordExact}
    {h3 : DmaTarget.Typed .vmem (.dma sR) (.remote (Dev.tc n : Thread nD τ) dst (.dma sS) hsc)}
    {kk : PUnit → Prog (TpuEff nD τ sig (Elt F) Λ₀ .tc) α} {Q : α → sProp 𝕄} :
    Ctx A B K ⊢ iprop(Ow c O' -∗ tokS (F := F) d k c
      -∗ own c (accC d (bkn d k₀ c)) (srcVal A B d k₀ c) -∗ Own (F := F) d k₀ (fwd d c) -∗ extra (F := F) d k₀ c
      -∗ ((Ow c O ∗ outS (F := F) d k c) -∗ wpc c (kk ⟨⟩) Q)
      -∗ wpc c (.op (.enqueueDma src (.remote (Dev.tc n : Thread nD τ) dst (.dma sS) hsc) (.dma sR) h1 h2 h3) kk) Q) := by
  subst hk hn hsrc hdst hS hR
  unfold Ow Own own owns tokS outS
  iintro #HC ⟨%W, HO⟩ ⟨Hts, Htr, Hat⟩ ⟨%fs, %hfs, Hsrc⟩ ⟨%v, ⟨%fd, %hfd, Hdst⟩⟩ Hx Hk
  ihave ⟨#HIs, #HRs⟩ := (Ctx_send A B K d k c) $$ HC
  ihave ⟨#HIr, #HRr⟩ := (Ctx_recv A B K d k (fwd d c)) $$ HC
  iapply (Rounds.wp_send_pointsTo_with 𝒱₀ ER (Rd A B) (c : Thread nD τ) none (κ₁ := K (c, sendIx d k)) (κ₂ := K (fwd d c, recvIx d k))
    (r₁ := 0) (r₂ := 0) (d₁ := false) (d₂ := false) (fs := fs) (fd := fd) (F := extra (F := F) d k.val c)
    (by rw [duties_send]; exact Finset.mem_singleton_self _) (by rw [duties_recv]; exact Finset.mem_singleton_self _)
    () () N (show (dstM d k.val (fwd d c)).view.amount (.dma (recvQ d k)) = N from credit_dst d k.val (fwd d c)) rfl rfl O hO (W := W)
    (by rw [payload_send]; unfold sendPay own owns
        iintro H; iexists fs; isplitr
        · ipureintro; exact hfs
        · iexact H)
    (by rw [payload_recv]; unfold recvPay own owns; rw [bk_fwd]
        iintro ⟨H, Hx⟩
        isplitl [H]
        · iexists _; isplitr [H]
          swap; · iexact H
          ipureintro; rw [View.read_write_univ]; exact hfs
        · iexact Hx)) $$ [HO Hts Htr Hsrc Hdst Hx]
  · isplitr; · iexact HIs
    isplitr; · iexact HIr
    isplitl [Hsrc]; · iexact Hsrc
    isplitl [Hdst Hx]
    · isplitl [Hdst] <;> iassumption
    isplitl [HO]; · iexact HO
    isplitl [Hts]; · iexact Hts
    isplitr; · iexact HRs
    isplitl [Htr]; · iexact Htr
    iexact HRr
  iintro ⟨Hc, HO⟩
  iapply Hk
  isplitl [HO]; · iexists W; iexact HO
  isplitl [Hc] <;> iassumption

/-- The wait for hop `k` in direction `d` to have left `c`. -/
theorem step_waitS (d : Bool) (k : Fin 6) (k₀ : ℕ) (hk : k.val = k₀) (n : ℕ) (hn : n < 8) {sS : DmaSem sig} (hS : sS = sendQ d k)
    {sp' : Space} {s' : Shape} {e' : EltTy} {src : Memref sig .tc sp' s' e'} {dst : Memref sig .tc .vmem S256x2048 .bf16}
    (hdst : dst.view.dmaCredit = N) {h1 : src.view.WordExact} {h2 : dst.view.WordExact}
    {kk : PUnit → Prog (TpuEff nD τ sig (Elt F) Λ₀ .tc) α} {Q : α → sProp 𝕄} :
    Ctx A B K ⊢ iprop(Ow c (OR c n) -∗ outS (F := F) d k c
      -∗ ((Ow c (OR c n) ∗ semVal (sendCell d k c) 0 ∗ own c (accC d (bkn d k₀ c)) (srcVal A B d k₀ c)) -∗ wpc c (kk ⟨⟩) Q)
      -∗ wpc c (.op (.waitDma2 sS src dst h1 h2) kk) Q) := by
  subst hk hS
  unfold Ow outS
  iintro #HC ⟨%W, HO⟩ ⟨Hc, Hat⟩ Hk
  ihave ⟨#HI, -⟩ := (Ctx_send A B K d k c) $$ HC
  iapply (Rounds.wp_wait_rest_token 𝒱₀ ER (Rd A B) (c : Thread nD τ) none (κ := K (c, sendIx d k)) (k' := N)
      (fun Kk => (wpE_waitDma2_eq 𝒱₀ (c : Thread nD τ) none Set.univ Kk).trans (by rw [hdst])) (Set.mem_univ _) () (O := OR c n) (W := W) (R := 0) (m := 0) (T := ∅)
      (by rw [Nat.zero_add, expect_send])) $$ [Hc HO Hat]
  · isplitr; · iexact HI
    isplitl [Hc]; · iexact Hc
    isplitl [HO]; · iexact HO
    isplitr
    · iapply (mayWait_OR c (.dma (sendQ d k)) n (by rw [lv_send]; omega)); iapply (Ctx_lev A B K); iexact HC
    iexact Hat
  iintro ⟨HO, Hat, -, Hpay⟩
  ihave Hp := (Entails.of_eq (rest_send A B c d k)) $$ Hpay
  imod (Rounds.cell_close ER (Rd A B) (Set.mem_univ (K (c, sendIx d k))) (fun h => h) (R := 0 + 1) (duties_later A B (sendCell d k c))) $$ [Hat] with Hz
  · isplitr; · iexact HI
    iexact Hat
  iapply Hk
  isplitl [HO]; · iexists _; iexact HO
  isplitl [Hz]; · iexact Hz
  unfold sendPay; iexact Hp

/-- The wait for hop `k` in direction `d` to have arrived on `c`. -/
theorem step_waitR (d : Bool) (k : Fin 6) (k₀ : ℕ) (hk : k.val = k₀) (n : ℕ) (hn : k.val + n < 6) {sR : DmaSem sig} (hR : sR = recvQ d k)
    {sp' : Space} {s' : Shape} {e' : EltTy} {src : Memref sig .tc sp' s' e'} {dst : Memref sig .tc .vmem S256x2048 .bf16}
    (hdst : dst.view.dmaCredit = N) {h1 : src.view.WordExact} {h2 : dst.view.WordExact}
    {kk : PUnit → Prog (TpuEff nD τ sig (Elt F) Λ₀ .tc) α} {Q : α → sProp 𝕄} :
    Ctx A B K ⊢ iprop(Ow c (OR c n) -∗ tokR (F := F) d k c
      -∗ ((Ow c (OR c n) ∗ semVal (recvCell d k c) 0 ∗ own c (dstM d k₀ c) (srcVal A B d k₀ (bk d c)) ∗ extra (F := F) d k₀ (bk d c)) -∗ wpc c (kk ⟨⟩) Q)
      -∗ wpc c (.op (.waitDma2 sR src dst h1 h2) kk) Q) := by
  subst hk hR
  unfold Ow tokR
  iintro #HC ⟨%W, HO⟩ ⟨Hc, Hat⟩ Hk
  ihave ⟨#HI, -⟩ := (Ctx_recv A B K d k c) $$ HC
  iapply (Rounds.wp_wait_rest_token 𝒱₀ ER (Rd A B) (c : Thread nD τ) none (κ := K (c, recvIx d k)) (k' := N)
      (fun Kk => (wpE_waitDma2_eq 𝒱₀ (c : Thread nD τ) none Set.univ Kk).trans (by rw [hdst])) (Set.mem_univ _) () (O := OR c n) (W := W) (R := 0) (m := 0) (T := ∅)
      (by rw [Nat.zero_add, expect_recv])) $$ [Hc HO Hat]
  · isplitr; · iexact HI
    isplitl [Hc]; · iexact Hc
    isplitl [HO]; · iexact HO
    isplitr
    · iapply (mayWait_OR c (.dma (recvQ d k)) n (by rw [lv_recv]; omega)); iapply (Ctx_lev A B K); iexact HC
    iexact Hat
  iintro ⟨HO, Hat, -, Hpay⟩
  ihave Hp := (Entails.of_eq (rest_recv A B c d k)) $$ Hpay
  imod (Rounds.cell_close ER (Rd A B) (Set.mem_univ (K (c, recvIx d k))) (fun h => h) (R := 0 + 1) (duties_later A B (recvCell d k c))) $$ [Hat] with Hz
  · isplitr; · iexact HI
    iexact Hat
  iapply Hk
  isplitl [HO]; · iexists _; iexact HO
  isplitl [Hz]; · iexact Hz
  unfold recvPay; iexact Hp

end Sems

end Cert.KernelIdeal.K

end
-- ==== Proof.PartsA.lean ====
/- The kernel's parts, one by one: the entry handshake, the conversions and the reduce-scatter. -/
module

public import proofs.«01_k».proof.Proof.Steps

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → ABlk F) (B : Dev nD → BBlk F) (K : Dev nD × Fin 25 → ℕ) (c : Dev nD)

/-- The entry handshake with both neighbours. -/
theorem part1_spec {Q : (Σ' (d0 : Dev nD) (v2 : BitVec 32) (v13 : BitVec 32), BitVec 32) → sProp 𝕄} :
    Ctx A B K ⊢ iprop(Ow c (O₀ c) -∗ dutyTok ER (barCell (fwd true c)) 0 false -∗ dutyTok ER (barCell (fwd false c)) 0 true -∗ Own (F := F) false 0 c -∗ Own (F := F) false 1 c -∗ Own (F := F) true 0 c -∗ Own (F := F) true 1 c -∗ cred (tallyAt (barCell c) () 2) -∗ atPos ER (barCell c) 0 ∅ 0 -∗ (∀ a1 : BitVec 32, ∀ a2 : BitVec 32, ∀ a3 : BitVec 32, (Ow c (OR c 6) ∗ semVal (barCell c) 0 ∗ barPay (F := F) false (fwd false c) ∗ barPay (F := F) true (fwd true c)) -∗ Q ⟨c, a1, a2, a3⟩)
      -∗ wpc c (k0_part1 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 ) Q) := by
  rw [k0_part1_eq_skeleton]; unfold k0_part1_skel
  simp only [semSignalWord, semWaitWord, Prog.lift, Prog.bind_op, Prog.bind_ret, Prog.pure_eq_ret, wp_deviceId]
  iintro #HC HO Ht0 Ht1 H00 H01 H10 H11 Hc Hat Hk
  iapply (step_signal A B K c true false rfl (dev1_eq c) rfl (by decide) (O' := O₀ c) (O := O₁ c) rfl) $$ HC HO Ht0 H00 H01; iintro HO
  iapply (step_signal A B K c false true rfl (dev2_eq c) rfl (by decide) (O' := O₁ c) (O := OR c 6) rfl) $$ HC HO Ht1 H10 H11; iintro HO
  iapply (step_barwait A B K c rfl (by decide)) $$ HC HO Hc Hat; iintro ⟨HO, Hz, H0, H1⟩
  iapply (step_ret c _)
  iapply Hk
  isplitl [HO]; · iexact HO
  isplitl [Hz]; · iexact Hz
  isplitl [H0]; · iexact H0
  iexact H1

/-- The right block rounded, and the product for the device's own clockwise chunk. -/
theorem part2_spec (v2 : BitVec 32) {Q : (BitVec 32) → sProp 𝕄} :
    Ctx A B K ⊢ iprop(own c bM (B c) -∗ (∃ v, own (F := F) c b16M v) -∗ own c aM (A c) -∗ Own (F := F) false 3 c -∗ (∀ a0 : BitVec 32, (own c bM (B c) ∗ own c b16M (k0_pay2 (B c)) ∗ own c aM (A c) ∗ own c (accC false (bkn false 0 c)) (srcVal A B false 0 c)) -∗ Q a0)
      -∗ wpc c (k0_part2 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2) Q) := by
  rw [k0_part2_eq_skeleton]; unfold k0_part2_skel
  simp only [semSignalWord, semWaitWord, Prog.lift, Prog.bind_op, Prog.bind_ret, Prog.pure_eq_ret, wp_deviceId]
  iintro #HC HB Hb16 HA Hx Hk
  unfold Own; icases Hx with ⟨%vx, Hx⟩
  icases Hb16 with ⟨%v16, Hb16⟩
  iapply (step_loadB c _) $$ HB; iintro HB
  iapply (step_load16 c _) $$ Hb16; iintro Hb16
  iapply (step_store16 c _) $$ Hb16; iintro Hb16
  iapply (step_loadA c false (bkn false 0 c) (off1_eq c) (A c)) $$ HA; iintro HA
  iapply (step_load16 c _) $$ Hb16; iintro Hb16
  iapply (step_load c accM (off2_eq c) _) $$ Hx; iintro Hx
  iapply (step_store c accM (off2_eq c) _) $$ Hx; iintro Hx
  iapply (step_ret c _)
  iapply Hk
  isplitl [HB]; · iexact HB
  isplitl [Hb16]; · iexact Hb16
  isplitl [HA]; · iexact HA
  iexact Hx

/-- The product for the device's own counter-clockwise chunk. -/
theorem part3_spec (v2 : BitVec 32) (v67 : BitVec 32) {Q : (Σ' (v103 : BitVec 32), BitVec 32) → sProp 𝕄} :
    Ctx A B K ⊢ iprop(own c aM (A c) -∗ own c b16M (k0_pay2 (B c)) -∗ Own (F := F) true 3 c -∗ (∀ a0 : BitVec 32, ∀ a1 : BitVec 32, (own c aM (A c) ∗ own c b16M (k0_pay2 (B c)) ∗ own c (accC true (bkn true 0 c)) (srcVal A B true 0 c)) -∗ Q ⟨a0, a1⟩)
      -∗ wpc c (k0_part3 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v67) Q) := by
  rw [k0_part3_eq_skeleton]; unfold k0_part3_skel
  simp only [semSignalWord, semWaitWord, Prog.lift, Prog.bind_op, Prog.bind_ret, Prog.pure_eq_ret, wp_deviceId]
  iintro #HC HA Hb16 Hx Hk
  unfold Own; icases Hx with ⟨%vx, Hx⟩
  iapply (step_loadA c true (bkn true 0 c) (off3_eq c) (A c)) $$ HA; iintro HA
  iapply (step_load16 c _) $$ Hb16; iintro Hb16
  iapply (step_load c accM (off4_eq c) _) $$ Hx; iintro Hx
  iapply (step_store c accM (off4_eq c) _) $$ Hx; iintro Hx
  iapply (step_ret c _)
  iapply Hk
  isplitl [HA]; · iexact HA
  isplitl [Hb16]; · iexact Hb16
  iexact Hx

/-- The start of hop 0 of the reduce-scatter in both directions. -/
theorem part4_spec (v2 : BitVec 32) (v13 : BitVec 32) (v24 : BitVec 32) (v103 : BitVec 32) (c256_i32_59 : BitVec 32) {Q : (Σ' (v127 : BitVec 32) (v128 : BitVec 32) (v129 : BitVec 1), BitVec 1) → sProp 𝕄} :
    Ctx A B K ⊢ iprop(Ow c (OR c 6) -∗ tokS (F := F) false 0 c -∗ tokS (F := F) true 0 c -∗ own c (accC false (bkn false 0 c)) (srcVal A B false 0 c) -∗ own c (accC true (bkn true 0 c)) (srcVal A B true 0 c) -∗ Own (F := F) false 0 (fwd false c) -∗ Own (F := F) true 0 (fwd true c) -∗ extra (F := F) false 0 c -∗ extra (F := F) true 0 c -∗ (∀ a0 : BitVec 32, ∀ a1 : BitVec 32, ∀ a2 : BitVec 1, ∀ a3 : BitVec 1, (Ow c (OR c 5) ∗ outS (F := F) false 0 c ∗ outS (F := F) true 0 c) -∗ Q ⟨a0, a1, a2, a3⟩)
      -∗ wpc c (k0_part4 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13 v24 v103 c256_i32_59) Q) := by
  rw [k0_part4_eq_skeleton]; unfold k0_part4_skel
  simp only [semSignalWord, semWaitWord, Prog.lift, Prog.bind_op, Prog.bind_ret, Prog.pure_eq_ret, wp_deviceId]
  iintro #HC HO HtS0 HtS1 Hs0 Hs1 Hd0 Hd1 He0 He1 Hk
  iapply (step_send A B K c false 0 0 rfl (dev3_eq c) (accC_of (show k0_off5 c 0#32 = rowOff false (bkn false 0 c) from off5_eq c 0)) rfl rfl rfl (O' := OR c 6) (O := OR c 5 + tallyAt (recvCell true 0 (fwd true c)) () N) rfl) $$ HC HO HtS0 Hs0 Hd0 He0; iintro ⟨HO, HtS0⟩
  iapply (step_send A B K c true 0 0 rfl (dev4_eq c) (accC_of (show k0_off6 c 0#32 = rowOff true (bkn true 0 c) from off6_eq c 0)) rfl rfl rfl (O' := OR c 5 + tallyAt (recvCell true 0 (fwd true c)) () N) (O := OR c 5) rfl) $$ HC HO HtS1 Hs1 Hd1 He1; iintro ⟨HO, HtS1⟩
  iapply (step_ret c _)
  iapply Hk
  isplitl [HO]; · iexact HO
  isplitl [HtS0]; · iexact HtS0
  iexact HtS1

/-- The products for the next chunk during hop 0. -/
theorem part5_spec (v2 : BitVec 32) (v127 : BitVec 32) (v128 : BitVec 32) (v129 : BitVec 1) (v132 : BitVec 1) {Q : (Σ' (v168 : FVec F S256x2048 .bf16), Vec F S256x2048 .bf16) → sProp 𝕄} :
    Ctx A B K ⊢ iprop(own c aM (A c) -∗ own c b16M (k0_pay2 (B c)) -∗ Own (F := F) false 4 c -∗ Own (F := F) true 4 c -∗ (∀ a1 : Vec F S256x2048 .bf16, (own c aM (A c) ∗ own c b16M (k0_pay2 (B c)) ∗ own c (accC false (bkn false 1 c)) (part A B false (bkn false 1 c) c) ∗ Own (F := F) true 4 c) -∗ Q ⟨k0_pay6 (chunkA (A c) true (bkn true 1 c)) (k0_pay2 (B c)), a1⟩)
      -∗ wpc c (k0_part5 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v127 v128 v129 v132) Q) := by
  rw [k0_part5_eq_skeleton]; unfold k0_part5_skel
  simp only [semSignalWord, semWaitWord, Prog.lift, Prog.bind_op, Prog.bind_ret, Prog.pure_eq_ret, wp_deviceId]
  iintro #HC HA Hb16 Hx Hy Hk
  unfold Own; icases Hx with ⟨%v_Hx, Hx⟩; icases Hy with ⟨%vy, Hy⟩
  iapply (step_loadA c false (bkn false 1 c) ((show k0_off7 c 0#32 = rowOff false (bkn false 1 c) from off7_eq c 0)) (A c)) $$ HA; iintro HA
  iapply (step_load16 c _) $$ Hb16; iintro Hb16
  iapply (step_load c accM ((show k0_off8 c 0#32 = rowOff false (bkn false 1 c) from off8_eq c 0)) _) $$ Hx; iintro Hx
  iapply (step_store c accM ((show k0_off8 c 0#32 = rowOff false (bkn false 1 c) from off8_eq c 0)) _) $$ Hx; iintro Hx
  iapply (step_loadA c true (bkn true 1 c) ((show k0_off9 c 0#32 = rowOff true (bkn true 1 c) from off9_eq c 0)) (A c)) $$ HA; iintro HA
  iapply (step_load16 c _) $$ Hb16; iintro Hb16
  iapply (step_load c accM ((show k0_off10 c 0#32 = rowOff true (bkn true 1 c) from off10_eq c 0)) _) $$ Hy; iintro Hy
  iapply (step_ret c _)
  iapply Hk
  isplitl [HA]; · iexact HA
  isplitl [Hb16]; · iexact Hb16
  isplitl [Hx]; · iexact Hx
  iexists _; iexact Hy

/-- The other product stored, and three of the waits of hop 0. -/
theorem part6_spec (v13 : BitVec 32) (v24 : BitVec 32) (v170 : Vec F S256x2048 .bf16) {Q : PUnit → sProp 𝕄} :
    Ctx A B K ⊢ iprop(Ow c (OR c 5) -∗ Own (F := F) true 4 c -∗ outS (F := F) false 0 c -∗ tokR (F := F) false 0 c -∗ outS (F := F) true 0 c -∗ ((Ow c (OR c 5) ∗ own c (accC true (bkn true 1 c)) (part A B true (bkn true 1 c) c) ∗ semVal (sendCell false 0 c) 0 ∗ own c (accC false (bkn false 0 c)) (srcVal A B false 0 c) ∗ semVal (sendCell true 0 c) 0 ∗ own c (accC true (bkn true 0 c)) (srcVal A B true 0 c) ∗ semVal (recvCell false 0 c) 0 ∗ own c (dstM false 0 c) (srcVal A B false 0 (bk false c)) ∗ extra (F := F) false 0 (bk false c)) -∗ Q ⟨⟩)
      -∗ wpc c (k0_part6 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v13 v24 (k0_pay6 (chunkA (A c) true (bkn true 1 c)) (k0_pay2 (B c))) v170) Q) := by
  rw [k0_part6_eq_skeleton]; unfold k0_part6_skel
  simp only [semSignalWord, semWaitWord, Prog.lift, Prog.bind_op, Prog.bind_ret, Prog.pure_eq_ret, wp_deviceId]
  iintro #HC HO Hy HtS0 HtR0 HtS1 Hk
  unfold Own; icases Hy with ⟨%v_Hy, Hy⟩
  iapply (step_store c accM ((show k0_off10 c 0#32 = rowOff true (bkn true 1 c) from off10_eq c 0)) _) $$ Hy; iintro Hy
  iapply (step_waitS A B K c false 0 0 rfl 5 (by decide) (by rfl) (by rfl)) $$ HC HO HtS0; iintro ⟨HO, HzS0, Hs0⟩
  iapply (step_waitR A B K c false 0 0 rfl 5 (by decide) (by rfl) (credit_dst false 0 c)) $$ HC HO HtR0; iintro ⟨HO, HzR0, Hl0, He0⟩
  iapply (step_waitS A B K c true 0 0 rfl 5 (by decide) (by rfl) (by rfl)) $$ HC HO HtS1; iintro ⟨HO, HzS1, Hs1⟩
  iapply (step_ret c _)
  iapply Hk
  isplitl [HO]; · iexact HO
  isplitl [Hy]; · iexact Hy
  isplitl [HzS0]; · iexact HzS0
  isplitl [Hs0]; · iexact Hs0
  isplitl [HzS1]; · iexact HzS1
  isplitl [Hs1]; · iexact Hs1
  isplitl [HzR0]; · iexact HzR0
  isplitl [Hl0]; · iexact Hl0
  iexact He0

/-- The last wait of hop 0, and the clockwise sum. -/
theorem part7_spec (v2 : BitVec 32) {Q : (Σ' (v222 : BitVec 32) (v223 : BitVec 32) (v224 : BitVec 1), BitVec 1) → sProp 𝕄} :
    Ctx A B K ⊢ iprop(Ow c (OR c 5) -∗ tokR (F := F) true 0 c -∗ own c (accC false (bkn false 1 c)) (part A B false (bkn false 1 c) c) -∗ own c (dstM false 0 c) (srcVal A B false 0 (bk false c)) -∗ (∀ a0 : BitVec 32, ∀ a1 : BitVec 32, ∀ a2 : BitVec 1, ∀ a3 : BitVec 1, (Ow c (OR c 5) ∗ semVal (recvCell true 0 c) 0 ∗ own c (dstM true 0 c) (srcVal A B true 0 (bk true c)) ∗ extra (F := F) true 0 (bk true c) ∗ own c (accC false (bkn false 1 c)) (srcVal A B false 1 c) ∗ own c (dstM false 0 c) (srcVal A B false 0 (bk false c))) -∗ Q ⟨a0, a1, a2, a3⟩)
      -∗ wpc c (k0_part7 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2) Q) := by
  rw [k0_part7_eq_skeleton]; unfold k0_part7_skel
  simp only [semSignalWord, semWaitWord, Prog.lift, Prog.bind_op, Prog.bind_ret, Prog.pure_eq_ret, wp_deviceId]
  iintro #HC HO HtR1 Hx Hl0 Hk
  iapply (step_waitR A B K c true 0 0 rfl 5 (by decide) (by rfl) (credit_dst true 0 c)) $$ HC HO HtR1; iintro ⟨HO, HzR1, Hl1, He1⟩
  iapply (step_load c accM ((show k0_off8 c 0#32 = rowOff false (bkn false 1 c) from off8_eq c 0)) _) $$ Hx; iintro Hx
  iapply (step_loadS c false false rfl _) $$ Hl0; iintro Hl0
  iapply (step_load c accM ((show k0_off8 c 0#32 = rowOff false (bkn false 1 c) from off8_eq c 0)) _) $$ Hx; iintro Hx
  iapply (step_store c accM ((show k0_off8 c 0#32 = rowOff false (bkn false 1 c) from off8_eq c 0)) _) $$ Hx; iintro Hx
  iapply (step_ret c _)
  iapply Hk
  isplitl [HO]; · iexact HO
  isplitl [HzR1]; · iexact HzR1
  isplitl [Hl1]; · iexact Hl1
  isplitl [He1]; · iexact He1
  isplitl [Hx]; · iapply (Entails.of_eq (congrArg (own c (accC false (bkn false 1 c))) (pay8_unsq _ _))); iexact Hx
  iexact Hl0

/-- The counter-clockwise sum of hop 0. -/
theorem part8_spec (v2 : BitVec 32) (v222 : BitVec 32) (v223 : BitVec 32) (v224 : BitVec 1) (v225 : BitVec 1) {Q : (Σ' (v256 : BitVec 32) (v257 : BitVec 32) (v258 : BitVec 1), BitVec 1) → sProp 𝕄} :
    Ctx A B K ⊢ iprop(own c (accC true (bkn true 1 c)) (part A B true (bkn true 1 c) c) -∗ own c (dstM true 0 c) (srcVal A B true 0 (bk true c)) -∗ (∀ a0 : BitVec 32, ∀ a1 : BitVec 32, ∀ a2 : BitVec 1, ∀ a3 : BitVec 1, (own c (accC true (bkn true 1 c)) (srcVal A B true 1 c) ∗ own c (dstM true 0 c) (srcVal A B true 0 (bk true c))) -∗ Q ⟨a0, a1, a2, a3⟩)
      -∗ wpc c (k0_part8 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v222 v223 v224 v225) Q) := by
  rw [k0_part8_eq_skeleton]; unfold k0_part8_skel
  simp only [semSignalWord, semWaitWord, Prog.lift, Prog.bind_op, Prog.bind_ret, Prog.pure_eq_ret, wp_deviceId]
  iintro #HC Hy Hl1 Hk
  iapply (step_load c accM ((show k0_off10 c 0#32 = rowOff true (bkn true 1 c) from off10_eq c 0)) _) $$ Hy; iintro Hy
  iapply (step_loadS c true false rfl _) $$ Hl1; iintro Hl1
  iapply (step_load c accM ((show k0_off10 c 0#32 = rowOff true (bkn true 1 c) from off10_eq c 0)) _) $$ Hy; iintro Hy
  iapply (step_store c accM ((show k0_off10 c 0#32 = rowOff true (bkn true 1 c) from off10_eq c 0)) _) $$ Hy; iintro Hy
  iapply (step_ret c _)
  iapply Hk
  isplitl [Hy]; · iapply (Entails.of_eq (congrArg (own c (accC true (bkn true 1 c))) (pay8_unsq _ _))); iexact Hy
  iexact Hl1

/-- The start of hop 1 of the reduce-scatter in both directions. -/
theorem part9_spec (v2 : BitVec 32) (v13 : BitVec 32) (v24 : BitVec 32) (v256 : BitVec 32) (v257 : BitVec 32) (v258 : BitVec 1) (v261 : BitVec 1) {Q : (Σ' (v288 : BitVec 32) (v289 : BitVec 32) (v290 : BitVec 1), BitVec 32) → sProp 𝕄} :
    Ctx A B K ⊢ iprop(Ow c (OR c 5) -∗ tokS (F := F) false 1 c -∗ tokS (F := F) true 1 c -∗ own c (accC false (bkn false 1 c)) (srcVal A B false 1 c) -∗ own c (accC true (bkn true 1 c)) (srcVal A B true 1 c) -∗ Own (F := F) false 1 (fwd false c) -∗ Own (F := F) true 1 (fwd true c) -∗ extra (F := F) false 1 c -∗ extra (F := F) true 1 c -∗ (∀ a0 : BitVec 32, ∀ a1 : BitVec 32, ∀ a2 : BitVec 1, ∀ a3 : BitVec 32, (Ow c (OR c 4) ∗ outS (F := F) false 1 c ∗ outS (F := F) true 1 c) -∗ Q ⟨a0, a1, a2, a3⟩)
      -∗ wpc c (k0_part9 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13 v24 v256 v257 v258 v261) Q) := by
  rw [k0_part9_eq_skeleton]; unfold k0_part9_skel
  simp only [semSignalWord, semWaitWord, Prog.lift, Prog.bind_op, Prog.bind_ret, Prog.pure_eq_ret, wp_deviceId]
  iintro #HC HO HtS0 HtS1 Hs0 Hs1 Hd0 Hd1 He0 He1 Hk
  iapply (step_send A B K c false 1 1 rfl (dev5_eq c) (accC_of (show k0_off5 c 1#32 = rowOff false (bkn false 1 c) from off5_eq c 1)) rfl rfl rfl (O' := OR c 5) (O := OR c 4 + tallyAt (recvCell true 1 (fwd true c)) () N) rfl) $$ HC HO HtS0 Hs0 Hd0 He0; iintro ⟨HO, HtS0⟩
  iapply (step_send A B K c true 1 1 rfl (dev6_eq c) (accC_of (show k0_off6 c 1#32 = rowOff true (bkn true 1 c) from off6_eq c 1)) rfl rfl rfl (O' := OR c 4 + tallyAt (recvCell true 1 (fwd true c)) () N) (O := OR c 4) rfl) $$ HC HO HtS1 Hs1 Hd1 He1; iintro ⟨HO, HtS1⟩
  iapply (step_ret c _)
  iapply Hk
  isplitl [HO]; · iexact HO
  isplitl [HtS0]; · iexact HtS0
  iexact HtS1

/-- The products for the next chunk during hop 1. -/
theorem part10_spec (v2 : BitVec 32) (v288 : BitVec 32) (v289 : BitVec 32) (v290 : BitVec 1) (c0_i32_220 : BitVec 32) {Q : (Σ' (v322 : BitVec 32), FVec F S256x2048 .f32) → sProp 𝕄} :
    Ctx A B K ⊢ iprop(own c aM (A c) -∗ own c b16M (k0_pay2 (B c)) -∗ Own (F := F) false 5 c -∗ (∀ a0 : BitVec 32, (own c aM (A c) ∗ own c b16M (k0_pay2 (B c)) ∗ own c (accC false (bkn false 2 c)) (part A B false (bkn false 2 c) c)) -∗ Q ⟨a0, k0_pay11 (chunkA (A c) true (bkn true 2 c)) (k0_pay2 (B c))⟩)
      -∗ wpc c (k0_part10 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v288 v289 v290 c0_i32_220) Q) := by
  rw [k0_part10_eq_skeleton]; unfold k0_part10_skel
  simp only [semSignalWord, semWaitWord, Prog.lift, Prog.bind_op, Prog.bind_ret, Prog.pure_eq_ret, wp_deviceId]
  iintro #HC HA Hb16 Hx Hk
  unfold Own; icases Hx with ⟨%v_Hx, Hx⟩
  iapply (step_loadA c false (bkn false 2 c) ((show k0_off7 c 1#32 = rowOff false (bkn false 2 c) from off7_eq c 1)) (A c)) $$ HA; iintro HA
  iapply (step_load16 c _) $$ Hb16; iintro Hb16
  iapply (step_load c accM ((show k0_off8 c 1#32 = rowOff false (bkn false 2 c) from off8_eq c 1)) _) $$ Hx; iintro Hx
  iapply (step_store c accM ((show k0_off8 c 1#32 = rowOff false (bkn false 2 c) from off8_eq c 1)) _) $$ Hx; iintro Hx
  iapply (step_loadA c true (bkn true 2 c) ((show k0_off9 c 1#32 = rowOff true (bkn true 2 c) from off9_eq c 1)) (A c)) $$ HA; iintro HA
  iapply (step_load16 c _) $$ Hb16; iintro Hb16
  iapply (step_ret c _)
  iapply Hk
  isplitl [HA]; · iexact HA
  isplitl [Hb16]; · iexact Hb16
  iexact Hx

/-- The other product stored, and three of the waits of hop 1. -/
theorem part11_spec (v24 : BitVec 32) (v322 : BitVec 32) {Q : PUnit → sProp 𝕄} :
    Ctx A B K ⊢ iprop(Ow c (OR c 4) -∗ Own (F := F) true 5 c -∗ outS (F := F) false 1 c -∗ tokR (F := F) false 1 c -∗ outS (F := F) true 1 c -∗ ((Ow c (OR c 4) ∗ own c (accC true (bkn true 2 c)) (part A B true (bkn true 2 c) c) ∗ semVal (sendCell false 1 c) 0 ∗ own c (accC false (bkn false 1 c)) (srcVal A B false 1 c) ∗ semVal (sendCell true 1 c) 0 ∗ own c (accC true (bkn true 1 c)) (srcVal A B true 1 c) ∗ semVal (recvCell false 1 c) 0 ∗ own c (dstM false 1 c) (srcVal A B false 1 (bk false c)) ∗ extra (F := F) false 1 (bk false c)) -∗ Q ⟨⟩)
      -∗ wpc c (k0_part11 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v24 v322 (k0_pay11 (chunkA (A c) true (bkn true 2 c)) (k0_pay2 (B c)))) Q) := by
  rw [k0_part11_eq_skeleton]; unfold k0_part11_skel
  simp only [semSignalWord, semWaitWord, Prog.lift, Prog.bind_op, Prog.bind_ret, Prog.pure_eq_ret, wp_deviceId]
  iintro #HC HO Hy HtS0 HtR0 HtS1 Hk
  unfold Own; icases Hy with ⟨%v_Hy, Hy⟩
  iapply (step_load c accM ((show k0_off10 c 1#32 = rowOff true (bkn true 2 c) from off10_eq c 1)) _) $$ Hy; iintro Hy
  iapply (step_store c accM ((show k0_off10 c 1#32 = rowOff true (bkn true 2 c) from off10_eq c 1)) _) $$ Hy; iintro Hy
  iapply (step_waitS A B K c false 1 1 rfl 4 (by decide) (by rfl) (by rfl)) $$ HC HO HtS0; iintro ⟨HO, HzS0, Hs0⟩
  iapply (step_waitR A B K c false 1 1 rfl 4 (by decide) (by rfl) (credit_dst false 1 c)) $$ HC HO HtR0; iintro ⟨HO, HzR0, Hl0, He0⟩
  iapply (step_waitS A B K c true 1 1 rfl 4 (by decide) (by rfl) (by rfl)) $$ HC HO HtS1; iintro ⟨HO, HzS1, Hs1⟩
  iapply (step_ret c _)
  iapply Hk
  isplitl [HO]; · iexact HO
  isplitl [Hy]; · iexact Hy
  isplitl [HzS0]; · iexact HzS0
  isplitl [Hs0]; · iexact Hs0
  isplitl [HzS1]; · iexact HzS1
  isplitl [Hs1]; · iexact Hs1
  isplitl [HzR0]; · iexact HzR0
  isplitl [Hl0]; · iexact Hl0
  iexact He0

/-- The last wait of hop 1, and the clockwise sum. -/
theorem part12_spec (v2 : BitVec 32) (v13 : BitVec 32) {Q : (Σ' (v383 : BitVec 32), BitVec 32) → sProp 𝕄} :
    Ctx A B K ⊢ iprop(Ow c (OR c 4) -∗ tokR (F := F) true 1 c -∗ own c (accC false (bkn false 2 c)) (part A B false (bkn false 2 c) c) -∗ own c (dstM false 1 c) (srcVal A B false 1 (bk false c)) -∗ (∀ a0 : BitVec 32, ∀ a1 : BitVec 32, (Ow c (OR c 4) ∗ semVal (recvCell true 1 c) 0 ∗ own c (dstM true 1 c) (srcVal A B true 1 (bk true c)) ∗ extra (F := F) true 1 (bk true c) ∗ own c (accC false (bkn false 2 c)) (srcVal A B false 2 c) ∗ own c (dstM false 1 c) (srcVal A B false 1 (bk false c))) -∗ Q ⟨a0, a1⟩)
      -∗ wpc c (k0_part12 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13) Q) := by
  rw [k0_part12_eq_skeleton]; unfold k0_part12_skel
  simp only [semSignalWord, semWaitWord, Prog.lift, Prog.bind_op, Prog.bind_ret, Prog.pure_eq_ret, wp_deviceId]
  iintro #HC HO HtR1 Hx Hl0 Hk
  iapply (step_waitR A B K c true 1 1 rfl 4 (by decide) (by rfl) (credit_dst true 1 c)) $$ HC HO HtR1; iintro ⟨HO, HzR1, Hl1, He1⟩
  iapply (step_load c accM ((show k0_off8 c 1#32 = rowOff false (bkn false 2 c) from off8_eq c 1)) _) $$ Hx; iintro Hx
  iapply (step_loadS c false true rfl _) $$ Hl0; iintro Hl0
  iapply (step_load c accM ((show k0_off8 c 1#32 = rowOff false (bkn false 2 c) from off8_eq c 1)) _) $$ Hx; iintro Hx
  iapply (step_store c accM ((show k0_off8 c 1#32 = rowOff false (bkn false 2 c) from off8_eq c 1)) _) $$ Hx; iintro Hx
  iapply (step_ret c _)
  iapply Hk
  isplitl [HO]; · iexact HO
  isplitl [HzR1]; · iexact HzR1
  isplitl [Hl1]; · iexact Hl1
  isplitl [He1]; · iexact He1
  isplitl [Hx]; · iapply (Entails.of_eq (congrArg (own c (accC false (bkn false 2 c))) (pay8_unsq _ _))); iexact Hx
  iexact Hl0

/-- The counter-clockwise sum of hop 1. -/
theorem part13_spec (v2 : BitVec 32) (v383 : BitVec 32) (v384 : BitVec 32) {Q : (Σ' (v417 : BitVec 32) (v418 : BitVec 32) (v419 : BitVec 1), BitVec 32) → sProp 𝕄} :
    Ctx A B K ⊢ iprop(own c (accC true (bkn true 2 c)) (part A B true (bkn true 2 c) c) -∗ own c (dstM true 1 c) (srcVal A B true 1 (bk true c)) -∗ (∀ a0 : BitVec 32, ∀ a1 : BitVec 32, ∀ a2 : BitVec 1, ∀ a3 : BitVec 32, (own c (accC true (bkn true 2 c)) (srcVal A B true 2 c) ∗ own c (dstM true 1 c) (srcVal A B true 1 (bk true c))) -∗ Q ⟨a0, a1, a2, a3⟩)
      -∗ wpc c (k0_part13 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v383 v384) Q) := by
  rw [k0_part13_eq_skeleton]; unfold k0_part13_skel
  simp only [semSignalWord, semWaitWord, Prog.lift, Prog.bind_op, Prog.bind_ret, Prog.pure_eq_ret, wp_deviceId]
  iintro #HC Hy Hl1 Hk
  iapply (step_load c accM ((show k0_off10 c 1#32 = rowOff true (bkn true 2 c) from off10_eq c 1)) _) $$ Hy; iintro Hy
  iapply (step_loadS c true true rfl _) $$ Hl1; iintro Hl1
  iapply (step_load c accM ((show k0_off10 c 1#32 = rowOff true (bkn true 2 c) from off10_eq c 1)) _) $$ Hy; iintro Hy
  iapply (step_store c accM ((show k0_off10 c 1#32 = rowOff true (bkn true 2 c) from off10_eq c 1)) _) $$ Hy; iintro Hy
  iapply (step_ret c _)
  iapply Hk
  isplitl [Hy]; · iapply (Entails.of_eq (congrArg (own c (accC true (bkn true 2 c))) (pay8_unsq _ _))); iexact Hy
  iexact Hl1

/-- The start of hop 2 of the reduce-scatter in both directions. -/
theorem part14_spec (v2 : BitVec 32) (v13 : BitVec 32) (v24 : BitVec 32) (v417 : BitVec 32) (v418 : BitVec 32) (v419 : BitVec 1) (c0_i32_322 : BitVec 32) {Q : (Σ' (v447 : BitVec 32), BitVec 32) → sProp 𝕄} :
    Ctx A B K ⊢ iprop(Ow c (OR c 4) -∗ tokS (F := F) false 2 c -∗ tokS (F := F) true 2 c -∗ own c (accC false (bkn false 2 c)) (srcVal A B false 2 c) -∗ own c (accC true (bkn true 2 c)) (srcVal A B true 2 c) -∗ Own (F := F) false 2 (fwd false c) -∗ Own (F := F) true 2 (fwd true c) -∗ extra (F := F) false 2 c -∗ extra (F := F) true 2 c -∗ (∀ a0 : BitVec 32, ∀ a1 : BitVec 32, (Ow c (OR c 3) ∗ outS (F := F) false 2 c ∗ outS (F := F) true 2 c) -∗ Q ⟨a0, a1⟩)
      -∗ wpc c (k0_part14 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13 v24 v417 v418 v419 c0_i32_322) Q) := by
  rw [k0_part14_eq_skeleton]; unfold k0_part14_skel
  simp only [semSignalWord, semWaitWord, Prog.lift, Prog.bind_op, Prog.bind_ret, Prog.pure_eq_ret, wp_deviceId]
  iintro #HC HO HtS0 HtS1 Hs0 Hs1 Hd0 Hd1 He0 He1 Hk
  iapply (step_send A B K c false 2 2 rfl (dev7_eq c) (accC_of (show k0_off5 c 2#32 = rowOff false (bkn false 2 c) from off5_eq c 2)) rfl rfl rfl (O' := OR c 4) (O := OR c 3 + tallyAt (recvCell true 2 (fwd true c)) () N) rfl) $$ HC HO HtS0 Hs0 Hd0 He0; iintro ⟨HO, HtS0⟩
  iapply (step_send A B K c true 2 2 rfl (dev8_eq c) (accC_of (show k0_off6 c 2#32 = rowOff true (bkn true 2 c) from off6_eq c 2)) rfl rfl rfl (O' := OR c 3 + tallyAt (recvCell true 2 (fwd true c)) () N) (O := OR c 3) rfl) $$ HC HO HtS1 Hs1 Hd1 He1; iintro ⟨HO, HtS1⟩
  iapply (step_ret c _)
  iapply Hk
  isplitl [HO]; · iexact HO
  isplitl [HtS0]; · iexact HtS0
  iexact HtS1

/-- The products for the next chunk during hop 2. -/
theorem part15_spec (v2 : BitVec 32) (v447 : BitVec 32) (v449 : BitVec 32) {Q : (Σ' (v483 : BitVec 32), FVec F S256x1024 .bf16) → sProp 𝕄} :
    Ctx A B K ⊢ iprop(own c aM (A c) -∗ own c b16M (k0_pay2 (B c)) -∗ Own (F := F) false 6 c -∗ (∀ a0 : BitVec 32, (own c aM (A c) ∗ own c b16M (k0_pay2 (B c)) ∗ own c (accC false (bkn false 3 c)) (part A B false (bkn false 3 c) c)) -∗ Q ⟨a0, k0_pay16 (chunkA (A c) true (bkn true 3 c))⟩)
      -∗ wpc c (k0_part15 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v447 v449) Q) := by
  rw [k0_part15_eq_skeleton]; unfold k0_part15_skel
  simp only [semSignalWord, semWaitWord, Prog.lift, Prog.bind_op, Prog.bind_ret, Prog.pure_eq_ret, wp_deviceId]
  iintro #HC HA Hb16 Hx Hk
  unfold Own; icases Hx with ⟨%v_Hx, Hx⟩
  iapply (step_loadA c false (bkn false 3 c) ((show k0_off7 c 2#32 = rowOff false (bkn false 3 c) from off7_eq c 2)) (A c)) $$ HA; iintro HA
  iapply (step_load16 c _) $$ Hb16; iintro Hb16
  iapply (step_load c accM ((show k0_off8 c 2#32 = rowOff false (bkn false 3 c) from off8_eq c 2)) _) $$ Hx; iintro Hx
  iapply (step_store c accM ((show k0_off8 c 2#32 = rowOff false (bkn false 3 c) from off8_eq c 2)) _) $$ Hx; iintro Hx
  iapply (step_loadA c true (bkn true 3 c) ((show k0_off9 c 2#32 = rowOff true (bkn true 3 c) from off9_eq c 2)) (A c)) $$ HA; iintro HA
  iapply (step_ret c _)
  iapply Hk
  isplitl [HA]; · iexact HA
  isplitl [Hb16]; · iexact Hb16
  iexact Hx

/-- The other product stored, and three of the waits of hop 2. -/
theorem part16_spec (v24 : BitVec 32) (v483 : BitVec 32) {Q : PUnit → sProp 𝕄} :
    Ctx A B K ⊢ iprop(Ow c (OR c 3) -∗ Own (F := F) true 6 c -∗ own c b16M (k0_pay2 (B c)) -∗ outS (F := F) false 2 c -∗ tokR (F := F) false 2 c -∗ outS (F := F) true 2 c -∗ ((Ow c (OR c 3) ∗ own c (accC true (bkn true 3 c)) (part A B true (bkn true 3 c) c) ∗ own c b16M (k0_pay2 (B c)) ∗ semVal (sendCell false 2 c) 0 ∗ own c (accC false (bkn false 2 c)) (srcVal A B false 2 c) ∗ semVal (sendCell true 2 c) 0 ∗ own c (accC true (bkn true 2 c)) (srcVal A B true 2 c) ∗ semVal (recvCell false 2 c) 0 ∗ own c (dstM false 2 c) (srcVal A B false 2 (bk false c)) ∗ extra (F := F) false 2 (bk false c)) -∗ Q ⟨⟩)
      -∗ wpc c (k0_part16 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v24 v483 (k0_pay16 (chunkA (A c) true (bkn true 3 c)))) Q) := by
  rw [k0_part16_eq_skeleton]; unfold k0_part16_skel
  simp only [semSignalWord, semWaitWord, Prog.lift, Prog.bind_op, Prog.bind_ret, Prog.pure_eq_ret, wp_deviceId]
  iintro #HC HO Hy Hb16 HtS0 HtR0 HtS1 Hk
  unfold Own; icases Hy with ⟨%v_Hy, Hy⟩
  iapply (step_load16 c _) $$ Hb16; iintro Hb16
  iapply (step_load c accM ((show k0_off10 c 2#32 = rowOff true (bkn true 3 c) from off10_eq c 2)) _) $$ Hy; iintro Hy
  iapply (step_store c accM ((show k0_off10 c 2#32 = rowOff true (bkn true 3 c) from off10_eq c 2)) _) $$ Hy; iintro Hy
  iapply (step_waitS A B K c false 2 2 rfl 3 (by decide) (by rfl) (by rfl)) $$ HC HO HtS0; iintro ⟨HO, HzS0, Hs0⟩
  iapply (step_waitR A B K c false 2 2 rfl 3 (by decide) (by rfl) (credit_dst false 2 c)) $$ HC HO HtR0; iintro ⟨HO, HzR0, Hl0, He0⟩
  iapply (step_waitS A B K c true 2 2 rfl 3 (by decide) (by rfl) (by rfl)) $$ HC HO HtS1; iintro ⟨HO, HzS1, Hs1⟩
  iapply (step_ret c _)
  iapply Hk
  isplitl [HO]; · iexact HO
  isplitl [Hy]; · iexact Hy
  isplitl [Hb16]; · iexact Hb16
  isplitl [HzS0]; · iexact HzS0
  isplitl [Hs0]; · iexact Hs0
  isplitl [HzS1]; · iexact HzS1
  isplitl [Hs1]; · iexact Hs1
  isplitl [HzR0]; · iexact HzR0
  isplitl [Hl0]; · iexact Hl0
  iexact He0

/-- The last wait of hop 2, and the clockwise sum. -/
theorem part17_spec (v2 : BitVec 32) (v13 : BitVec 32) {Q : (Σ' (v542 : BitVec 32) (c4_i32_429 : BitVec 32), BitVec 32) → sProp 𝕄} :
    Ctx A B K ⊢ iprop(Ow c (OR c 3) -∗ tokR (F := F) true 2 c -∗ own c (accC false (bkn false 3 c)) (part A B false (bkn false 3 c) c) -∗ own c (dstM false 2 c) (srcVal A B false 2 (bk false c)) -∗ (∀ a0 : BitVec 32, ∀ a1 : BitVec 32, ∀ a2 : BitVec 32, (Ow c (OR c 3) ∗ semVal (recvCell true 2 c) 0 ∗ own c (dstM true 2 c) (srcVal A B true 2 (bk true c)) ∗ extra (F := F) true 2 (bk true c) ∗ own c (accC false (bkn false 3 c)) (accV A B false 3 c) ∗ own c (dstM false 2 c) (srcVal A B false 2 (bk false c))) -∗ Q ⟨a0, a1, a2⟩)
      -∗ wpc c (k0_part17 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13) Q) := by
  rw [k0_part17_eq_skeleton]; unfold k0_part17_skel
  simp only [semSignalWord, semWaitWord, Prog.lift, Prog.bind_op, Prog.bind_ret, Prog.pure_eq_ret, wp_deviceId]
  iintro #HC HO HtR1 Hx Hl0 Hk
  iapply (step_waitR A B K c true 2 2 rfl 3 (by decide) (by rfl) (credit_dst true 2 c)) $$ HC HO HtR1; iintro ⟨HO, HzR1, Hl1, He1⟩
  iapply (step_load c accM ((show k0_off8 c 2#32 = rowOff false (bkn false 3 c) from off8_eq c 2)) _) $$ Hx; iintro Hx
  iapply (step_loadS c false false rfl _) $$ Hl0; iintro Hl0
  iapply (step_load c accM ((show k0_off8 c 2#32 = rowOff false (bkn false 3 c) from off8_eq c 2)) _) $$ Hx; iintro Hx
  iapply (step_store c accM ((show k0_off8 c 2#32 = rowOff false (bkn false 3 c) from off8_eq c 2)) _) $$ Hx; iintro Hx
  iapply (step_ret c _)
  iapply Hk
  isplitl [HO]; · iexact HO
  isplitl [HzR1]; · iexact HzR1
  isplitl [Hl1]; · iexact Hl1
  isplitl [He1]; · iexact He1
  isplitl [Hx]; · iapply (Entails.of_eq (congrArg (own c (accC false (bkn false 3 c))) (pay8_unsq _ _))); iexact Hx
  iexact Hl0

/-- The counter-clockwise sum of hop 2. -/
theorem part18_spec (v2 : BitVec 32) (v542 : BitVec 32) (c4_i32_429 : BitVec 32) (c0_i32_430 : BitVec 32) {Q : (Σ' (v575 : BitVec 32) (v576 : BitVec 32), BitVec 32) → sProp 𝕄} :
    Ctx A B K ⊢ iprop(own c (accC true (bkn true 3 c)) (part A B true (bkn true 3 c) c) -∗ own c (dstM true 2 c) (srcVal A B true 2 (bk true c)) -∗ (∀ a0 : BitVec 32, ∀ a1 : BitVec 32, ∀ a2 : BitVec 32, (own c (accC true (bkn true 3 c)) (accV A B true 3 c) ∗ own c (dstM true 2 c) (srcVal A B true 2 (bk true c))) -∗ Q ⟨a0, a1, a2⟩)
      -∗ wpc c (k0_part18 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v542 c4_i32_429 c0_i32_430) Q) := by
  rw [k0_part18_eq_skeleton]; unfold k0_part18_skel
  simp only [semSignalWord, semWaitWord, Prog.lift, Prog.bind_op, Prog.bind_ret, Prog.pure_eq_ret, wp_deviceId]
  iintro #HC Hy Hl1 Hk
  iapply (step_load c accM ((show k0_off10 c 2#32 = rowOff true (bkn true 3 c) from off10_eq c 2)) _) $$ Hy; iintro Hy
  iapply (step_loadS c true false rfl _) $$ Hl1; iintro Hl1
  iapply (step_load c accM ((show k0_off10 c 2#32 = rowOff true (bkn true 3 c) from off10_eq c 2)) _) $$ Hy; iintro Hy
  iapply (step_store c accM ((show k0_off10 c 2#32 = rowOff true (bkn true 3 c) from off10_eq c 2)) _) $$ Hy; iintro Hy
  iapply (step_ret c _)
  iapply Hk
  isplitl [Hy]; · iapply (Entails.of_eq (congrArg (own c (accC true (bkn true 3 c))) (pay8_unsq _ _))); iexact Hy
  iexact Hl1

end Cert.KernelIdeal.K

end
-- ==== Proof.PartsB.lean ====
/- The kernel's parts, one by one: the activation and the all-gather. -/
module

public import proofs.«01_k».proof.Proof.Steps

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → ABlk F) (B : Dev nD → BBlk F) (K : Dev nD × Fin 25 → ℕ) (c : Dev nD)

/-- What direction `d` passes on at hop 3 is the device's own activated chunk. -/
theorem own3 (d : Bool) (m : Memref sig .tc .vmem S256x2048 .bf16) :
    own c m (gV A B d c) ⊢ own c m (srcVal A B d 3 c) :=
  Entails.of_eq (congrArg (fun j => own c m (gV A B d j)) (bkn_zero d c).symm)

/-- The clockwise chunk activated; the counter-clockwise one read. -/
theorem part19_spec (v575 : BitVec 32) (v576 : BitVec 32) (v578 : BitVec 32) {Q : (Σ' (v588 : BitVec 32) (v616 : FVec F S256x2048 .f32), FVec F S256x2048 .f32) → sProp 𝕄} :
    Ctx A B K ⊢ iprop(own c (accC false (bkn false 3 c)) (accV A B false 3 c) -∗ (∃ v, own (F := F) c (outC false (bkn false 3 c)) v) -∗ own c (accC true (bkn true 3 c)) (accV A B true 3 c) -∗ (∀ a0 : BitVec 32, (own c (accC false (bkn false 3 c)) (srcVal A B false 3 c) ∗ own c (outC false (bkn false 3 c)) (k0_pay20 (accV A B false 3 c)) ∗ own c (accC true (bkn true 3 c)) (accV A B true 3 c)) -∗ Q ⟨a0, k0_pay23 (accV A B true 3 c), k0_pay24 (accV A B true 3 c)⟩)
      -∗ wpc c (k0_part19 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v575 v576 v578) Q) := by
  rw [k0_part19_eq_skeleton]; unfold k0_part19_skel
  simp only [semSignalWord, semWaitWord, Prog.lift, Prog.bind_op, Prog.bind_ret, Prog.pure_eq_ret, wp_deviceId]
  iintro #HC Hx0 Ho0 Hx1 Hk
  icases Ho0 with ⟨%v_Ho0, Ho0⟩
  iapply (step_load c accM ((off11_eq c)) _) $$ Hx0; iintro Hx0
  iapply (step_load c oM ((off11_eq c)) _) $$ Ho0; iintro Ho0
  iapply (step_store c oM ((off11_eq c)) _) $$ Ho0; iintro Ho0
  iapply (step_load c accM ((off11_eq c)) _) $$ Hx0; iintro Hx0
  iapply (step_store c accM ((off11_eq c)) _) $$ Hx0; iintro Hx0
  iapply (step_load c accM ((off12_eq c)) _) $$ Hx1; iintro Hx1
  iapply (step_ret c _)
  iapply Hk
  isplitl [Hx0]; · iapply (own3 A B c false _); iexact Hx0
  isplitl [Ho0]; · iexact Ho0
  iexact Hx1

/-- The counter-clockwise chunk activated. -/
theorem part20_spec (v2 : BitVec 32) (v588 : BitVec 32) {Q : (Σ' (v652 : BitVec 32) (v657 : BitVec 1), BitVec 32) → sProp 𝕄} :
    Ctx A B K ⊢ iprop(own c (accC true (bkn true 3 c)) (accV A B true 3 c) -∗ (∃ v, own (F := F) c (outC true (bkn true 3 c)) v) -∗ (∀ a0 : BitVec 32, ∀ a1 : BitVec 1, ∀ a2 : BitVec 32, (own c (accC true (bkn true 3 c)) (srcVal A B true 3 c) ∗ own c (outC true (bkn true 3 c)) (k0_pay20 (accV A B true 3 c))) -∗ Q ⟨a0, a1, a2⟩)
      -∗ wpc c (k0_part20 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v588 (k0_pay23 (accV A B true 3 c)) (k0_pay24 (accV A B true 3 c))) Q) := by
  rw [k0_part20_eq_skeleton]; unfold k0_part20_skel
  simp only [semSignalWord, semWaitWord, Prog.lift, Prog.bind_op, Prog.bind_ret, Prog.pure_eq_ret, wp_deviceId]
  iintro #HC Hx1 Ho1 Hk
  icases Ho1 with ⟨%v_Ho1, Ho1⟩
  iapply (step_load c oM ((off12_eq c)) _) $$ Ho1; iintro Ho1
  iapply (step_store c oM ((off12_eq c)) _) $$ Ho1; iintro Ho1
  iapply (step_load c accM ((off12_eq c)) _) $$ Hx1; iintro Hx1
  iapply (step_store c accM ((off12_eq c)) _) $$ Hx1; iintro Hx1
  iapply (step_ret c _)
  iapply Hk
  isplitl [Hx1]; · iapply (own3 A B c true _); iexact Hx1
  iexact Ho1

/-- Hop 3, the first of whose waits are made here. -/
theorem part22_spec (v13 : BitVec 32) (v24 : BitVec 32) {Q : PUnit → sProp 𝕄} :
    Ctx A B K ⊢ iprop(Ow c (OR c 3) -∗ tokS (F := F) false 3 c -∗ tokS (F := F) true 3 c -∗ own c (accC false (bkn false 3 c)) (srcVal A B false 3 c) -∗ own c (accC true (bkn true 3 c)) (srcVal A B true 3 c) -∗ Own (F := F) false 3 (fwd false c) -∗ Own (F := F) true 3 (fwd true c) -∗ extra (F := F) false 3 c -∗ extra (F := F) true 3 c -∗ tokR (F := F) false 3 c -∗ ((Ow c (OR c 2) ∗ semVal (sendCell false 3 c) 0 ∗ own c (accC false (bkn false 3 c)) (srcVal A B false 3 c) ∗ semVal (recvCell false 3 c) 0 ∗ own c (accC false (bkn false 0 c)) (gV A B false (bkn false 0 (bk false c))) ∗ extra (F := F) false 3 (bk false c) ∗ outS (F := F) true 3 c) -∗ Q ⟨⟩)
      -∗ wpc c (k0_part22 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v13 v24) Q) := by
  rw [k0_part22_eq_skeleton]; unfold k0_part22_skel
  simp only [semSignalWord, semWaitWord, Prog.lift, Prog.bind_op, Prog.bind_ret, Prog.pure_eq_ret, wp_deviceId]
  iintro #HC HO HtS0 HtS1 Hs0 Hs1 Hd0 Hd1 He0 He1 HtR0 Hk
  iapply (step_send A B K c false 3 3 rfl (dev9_eq c) (accC_of (show k0_off13 c 0#32 = rowOff false (bkn false 3 c) from off13_eq c 0)) (accC_of ((show k0_off13 c 0#32 = rowOff false (bkn false 3 c) from off13_eq c 0).trans (congrArg (rowOff false) (bkn_fwd3 false 0 c).symm))) rfl rfl (O' := OR c 3) (O := OR c 2 + tallyAt (recvCell true 3 (fwd true c)) () N) rfl) $$ HC HO HtS0 Hs0 Hd0 He0; iintro ⟨HO, HtS0⟩
  iapply (step_send A B K c true 3 3 rfl (dev10_eq c) (accC_of (show k0_off14 c 0#32 = rowOff true (bkn true 3 c) from off14_eq c 0)) (accC_of ((show k0_off14 c 0#32 = rowOff true (bkn true 3 c) from off14_eq c 0).trans (congrArg (rowOff true) (bkn_fwd3 true 0 c).symm))) rfl rfl (O' := OR c 2 + tallyAt (recvCell true 3 (fwd true c)) () N) (O := OR c 2) rfl) $$ HC HO HtS1 Hs1 Hd1 He1; iintro ⟨HO, HtS1⟩
  iapply (step_waitS A B K c false 3 3 rfl 2 (by decide) (by rfl) (by rfl)) $$ HC HO HtS0; iintro ⟨HO, HzS0, Hs0⟩
  iapply (step_waitR A B K c false 3 3 rfl 2 (by decide) (by rfl) (by rfl)) $$ HC HO HtR0; iintro ⟨HO, HzR0, Hl0, He0⟩
  iapply (step_ret c _)
  iapply Hk
  isplitl [HO]; · iexact HO
  isplitl [HzS0]; · iexact HzS0
  isplitl [Hs0]; · iexact Hs0
  isplitl [HzR0]; · iexact HzR0
  isplitl [Hl0]; · iexact Hl0
  isplitl [He0]; · iexact He0
  iexact HtS1

/-- The rest of hop 3's waits, and the clockwise chunk it brought written out. -/
theorem part23_spec (v2 : BitVec 32) (v13 : BitVec 32) {Q : (Σ' (v744 : BitVec 32) (v745 : BitVec 32) (v746 : BitVec 1) (v747 : BitVec 1), BitVec 32) → sProp 𝕄} :
    Ctx A B K ⊢ iprop(Ow c (OR c 2) -∗ outS (F := F) true 3 c -∗ tokR (F := F) true 3 c -∗ own c (accC false (bkn false 0 c)) (gV A B false (bkn false 0 (bk false c))) -∗ (∃ v, own (F := F) c (outC false (bkn false 0 c)) v) -∗ (∀ a0 : BitVec 32, ∀ a1 : BitVec 32, ∀ a2 : BitVec 1, ∀ a3 : BitVec 1, ∀ a4 : BitVec 32, (Ow c (OR c 2) ∗ semVal (sendCell true 3 c) 0 ∗ own c (accC true (bkn true 3 c)) (srcVal A B true 3 c) ∗ semVal (recvCell true 3 c) 0 ∗ own c (accC true (bkn true 0 c)) (gV A B true (bkn true 0 (bk true c))) ∗ extra (F := F) true 3 (bk true c) ∗ own c (accC false (bkn false 0 c)) (gV A B false (bkn false 0 (bk false c))) ∗ own c (outC false (bkn false 0 c)) (k0_pay27 (gV A B false (bkn false 0 (bk false c))))) -∗ Q ⟨a0, a1, a2, a3, a4⟩)
      -∗ wpc c (k0_part23 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13) Q) := by
  rw [k0_part23_eq_skeleton]; unfold k0_part23_skel
  simp only [semSignalWord, semWaitWord, Prog.lift, Prog.bind_op, Prog.bind_ret, Prog.pure_eq_ret, wp_deviceId]
  iintro #HC HO HtS1 HtR1 Hl0 Ho0 Hk
  icases Ho0 with ⟨%v_Ho0, Ho0⟩
  iapply (step_waitS A B K c true 3 3 rfl 2 (by decide) (by rfl) (by rfl)) $$ HC HO HtS1; iintro ⟨HO, HzS1, Hs1⟩
  iapply (step_waitR A B K c true 3 3 rfl 2 (by decide) (by rfl) (by rfl)) $$ HC HO HtR1; iintro ⟨HO, HzR1, Hl1, He1⟩
  iapply (step_load c accM ((show k0_off15 c 0#32 = rowOff false (bkn false 0 c) from off15_eq c 0)) _) $$ Hl0; iintro Hl0
  iapply (step_load c oM ((show k0_off15 c 0#32 = rowOff false (bkn false 0 c) from off15_eq c 0)) _) $$ Ho0; iintro Ho0
  iapply (step_store c oM ((show k0_off15 c 0#32 = rowOff false (bkn false 0 c) from off15_eq c 0)) _) $$ Ho0; iintro Ho0
  iapply (step_ret c _)
  iapply Hk
  isplitl [HO]; · iexact HO
  isplitl [HzS1]; · iexact HzS1
  isplitl [Hs1]; · iexact Hs1
  isplitl [HzR1]; · iexact HzR1
  isplitl [Hl1]; · iexact Hl1
  isplitl [He1]; · iexact He1
  isplitl [Hl0]; · iexact Hl0
  iexact Ho0

/-- The counter-clockwise chunk hop 3 brought written out. -/
theorem part24_spec (v2 : BitVec 32) (v744 : BitVec 32) (v745 : BitVec 32) (v746 : BitVec 1) (v747 : BitVec 1) (c0_i32_572 : BitVec 32) {Q : (Σ' (v784 : BitVec 32), BitVec 32) → sProp 𝕄} :
    Ctx A B K ⊢ iprop(own c (accC true (bkn true 0 c)) (gV A B true (bkn true 0 (bk true c))) -∗ (∃ v, own (F := F) c (outC true (bkn true 0 c)) v) -∗ (∀ a0 : BitVec 32, ∀ a1 : BitVec 32, (own c (accC true (bkn true 0 c)) (gV A B true (bkn true 0 (bk true c))) ∗ own c (outC true (bkn true 0 c)) (k0_pay27 (gV A B true (bkn true 0 (bk true c))))) -∗ Q ⟨a0, a1⟩)
      -∗ wpc c (k0_part24 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v744 v745 v746 v747 c0_i32_572) Q) := by
  rw [k0_part24_eq_skeleton]; unfold k0_part24_skel
  simp only [semSignalWord, semWaitWord, Prog.lift, Prog.bind_op, Prog.bind_ret, Prog.pure_eq_ret, wp_deviceId]
  iintro #HC Hl1 Ho1 Hk
  icases Ho1 with ⟨%v_Ho1, Ho1⟩
  iapply (step_load c accM ((show k0_off16 c 0#32 = rowOff true (bkn true 0 c) from off16_eq c 0)) _) $$ Hl1; iintro Hl1
  iapply (step_load c oM ((show k0_off16 c 0#32 = rowOff true (bkn true 0 c) from off16_eq c 0)) _) $$ Ho1; iintro Ho1
  iapply (step_store c oM ((show k0_off16 c 0#32 = rowOff true (bkn true 0 c) from off16_eq c 0)) _) $$ Ho1; iintro Ho1
  iapply (step_ret c _)
  iapply Hk
  isplitl [Hl1]; · iexact Hl1
  iexact Ho1

/-- Hop 4, the first of whose waits are made here. -/
theorem part26_spec (v13 : BitVec 32) (v24 : BitVec 32) {Q : PUnit → sProp 𝕄} :
    Ctx A B K ⊢ iprop(Ow c (OR c 2) -∗ tokS (F := F) false 4 c -∗ tokS (F := F) true 4 c -∗ own c (accC false (bkn false 4 c)) (srcVal A B false 4 c) -∗ own c (accC true (bkn true 4 c)) (srcVal A B true 4 c) -∗ Own (F := F) false 4 (fwd false c) -∗ Own (F := F) true 4 (fwd true c) -∗ extra (F := F) false 4 c -∗ extra (F := F) true 4 c -∗ tokR (F := F) false 4 c -∗ ((Ow c (OR c 1) ∗ semVal (sendCell false 4 c) 0 ∗ own c (accC false (bkn false 4 c)) (srcVal A B false 4 c) ∗ semVal (recvCell false 4 c) 0 ∗ own c (accC false (bkn false 1 c)) (gV A B false (bkn false 1 (bk false c))) ∗ extra (F := F) false 4 (bk false c) ∗ outS (F := F) true 4 c) -∗ Q ⟨⟩)
      -∗ wpc c (k0_part26 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v13 v24) Q) := by
  rw [k0_part26_eq_skeleton]; unfold k0_part26_skel
  simp only [semSignalWord, semWaitWord, Prog.lift, Prog.bind_op, Prog.bind_ret, Prog.pure_eq_ret, wp_deviceId]
  iintro #HC HO HtS0 HtS1 Hs0 Hs1 Hd0 Hd1 He0 He1 HtR0 Hk
  iapply (step_send A B K c false 4 4 rfl (dev11_eq c) (accC_of (show k0_off13 c 1#32 = rowOff false (bkn false 4 c) from off13_eq c 1)) (accC_of ((show k0_off13 c 1#32 = rowOff false (bkn false 4 c) from off13_eq c 1).trans (congrArg (rowOff false) (bkn_fwd3 false 1 c).symm))) rfl rfl (O' := OR c 2) (O := OR c 1 + tallyAt (recvCell true 4 (fwd true c)) () N) rfl) $$ HC HO HtS0 Hs0 Hd0 He0; iintro ⟨HO, HtS0⟩
  iapply (step_send A B K c true 4 4 rfl (dev12_eq c) (accC_of (show k0_off14 c 1#32 = rowOff true (bkn true 4 c) from off14_eq c 1)) (accC_of ((show k0_off14 c 1#32 = rowOff true (bkn true 4 c) from off14_eq c 1).trans (congrArg (rowOff true) (bkn_fwd3 true 1 c).symm))) rfl rfl (O' := OR c 1 + tallyAt (recvCell true 4 (fwd true c)) () N) (O := OR c 1) rfl) $$ HC HO HtS1 Hs1 Hd1 He1; iintro ⟨HO, HtS1⟩
  iapply (step_waitS A B K c false 4 4 rfl 1 (by decide) (by rfl) (by rfl)) $$ HC HO HtS0; iintro ⟨HO, HzS0, Hs0⟩
  iapply (step_waitR A B K c false 4 4 rfl 1 (by decide) (by rfl) (by rfl)) $$ HC HO HtR0; iintro ⟨HO, HzR0, Hl0, He0⟩
  iapply (step_ret c _)
  iapply Hk
  isplitl [HO]; · iexact HO
  isplitl [HzS0]; · iexact HzS0
  isplitl [Hs0]; · iexact Hs0
  isplitl [HzR0]; · iexact HzR0
  isplitl [Hl0]; · iexact Hl0
  isplitl [He0]; · iexact He0
  iexact HtS1

/-- The rest of hop 4's waits, and the clockwise chunk it brought written out. -/
theorem part27_spec (v2 : BitVec 32) (v13 : BitVec 32) {Q : (Σ' (v869 : BitVec 32) (v870 : BitVec 32) (v871 : BitVec 1), BitVec 1) → sProp 𝕄} :
    Ctx A B K ⊢ iprop(Ow c (OR c 1) -∗ outS (F := F) true 4 c -∗ tokR (F := F) true 4 c -∗ own c (accC false (bkn false 1 c)) (gV A B false (bkn false 1 (bk false c))) -∗ (∃ v, own (F := F) c (outC false (bkn false 1 c)) v) -∗ (∀ a0 : BitVec 32, ∀ a1 : BitVec 32, ∀ a2 : BitVec 1, ∀ a3 : BitVec 1, (Ow c (OR c 1) ∗ semVal (sendCell true 4 c) 0 ∗ own c (accC true (bkn true 4 c)) (srcVal A B true 4 c) ∗ semVal (recvCell true 4 c) 0 ∗ own c (accC true (bkn true 1 c)) (gV A B true (bkn true 1 (bk true c))) ∗ extra (F := F) true 4 (bk true c) ∗ own c (accC false (bkn false 1 c)) (gV A B false (bkn false 1 (bk false c))) ∗ own c (outC false (bkn false 1 c)) (k0_pay27 (gV A B false (bkn false 1 (bk false c))))) -∗ Q ⟨a0, a1, a2, a3⟩)
      -∗ wpc c (k0_part27 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13) Q) := by
  rw [k0_part27_eq_skeleton]; unfold k0_part27_skel
  simp only [semSignalWord, semWaitWord, Prog.lift, Prog.bind_op, Prog.bind_ret, Prog.pure_eq_ret, wp_deviceId]
  iintro #HC HO HtS1 HtR1 Hl0 Ho0 Hk
  icases Ho0 with ⟨%v_Ho0, Ho0⟩
  iapply (step_waitS A B K c true 4 4 rfl 1 (by decide) (by rfl) (by rfl)) $$ HC HO HtS1; iintro ⟨HO, HzS1, Hs1⟩
  iapply (step_waitR A B K c true 4 4 rfl 1 (by decide) (by rfl) (by rfl)) $$ HC HO HtR1; iintro ⟨HO, HzR1, Hl1, He1⟩
  iapply (step_load c accM ((show k0_off15 c 1#32 = rowOff false (bkn false 1 c) from off15_eq c 1)) _) $$ Hl0; iintro Hl0
  iapply (step_load c oM ((show k0_off15 c 1#32 = rowOff false (bkn false 1 c) from off15_eq c 1)) _) $$ Ho0; iintro Ho0
  iapply (step_store c oM ((show k0_off15 c 1#32 = rowOff false (bkn false 1 c) from off15_eq c 1)) _) $$ Ho0; iintro Ho0
  iapply (step_ret c _)
  iapply Hk
  isplitl [HO]; · iexact HO
  isplitl [HzS1]; · iexact HzS1
  isplitl [Hs1]; · iexact Hs1
  isplitl [HzR1]; · iexact HzR1
  isplitl [Hl1]; · iexact Hl1
  isplitl [He1]; · iexact He1
  isplitl [Hl0]; · iexact Hl0
  iexact Ho0

/-- The counter-clockwise chunk hop 4 brought written out. -/
theorem part28_spec (v2 : BitVec 32) (v869 : BitVec 32) (v870 : BitVec 32) (v871 : BitVec 1) (v874 : BitVec 1) {Q : (BitVec 32) → sProp 𝕄} :
    Ctx A B K ⊢ iprop(own c (accC true (bkn true 1 c)) (gV A B true (bkn true 1 (bk true c))) -∗ (∃ v, own (F := F) c (outC true (bkn true 1 c)) v) -∗ (∀ a0 : BitVec 32, (own c (accC true (bkn true 1 c)) (gV A B true (bkn true 1 (bk true c))) ∗ own c (outC true (bkn true 1 c)) (k0_pay27 (gV A B true (bkn true 1 (bk true c))))) -∗ Q a0)
      -∗ wpc c (k0_part28 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v869 v870 v871 v874) Q) := by
  rw [k0_part28_eq_skeleton]; unfold k0_part28_skel
  simp only [semSignalWord, semWaitWord, Prog.lift, Prog.bind_op, Prog.bind_ret, Prog.pure_eq_ret, wp_deviceId]
  iintro #HC Hl1 Ho1 Hk
  icases Ho1 with ⟨%v_Ho1, Ho1⟩
  iapply (step_load c accM ((show k0_off16 c 1#32 = rowOff true (bkn true 1 c) from off16_eq c 1)) _) $$ Hl1; iintro Hl1
  iapply (step_load c oM ((show k0_off16 c 1#32 = rowOff true (bkn true 1 c) from off16_eq c 1)) _) $$ Ho1; iintro Ho1
  iapply (step_store c oM ((show k0_off16 c 1#32 = rowOff true (bkn true 1 c) from off16_eq c 1)) _) $$ Ho1; iintro Ho1
  iapply (step_ret c _)
  iapply Hk
  isplitl [Hl1]; · iexact Hl1
  iexact Ho1

/-- Hop 5, the first of whose waits are made here. -/
theorem part30_spec (v13 : BitVec 32) (v24 : BitVec 32) {Q : PUnit → sProp 𝕄} :
    Ctx A B K ⊢ iprop(Ow c (OR c 1) -∗ tokS (F := F) false 5 c -∗ tokS (F := F) true 5 c -∗ own c (accC false (bkn false 5 c)) (srcVal A B false 5 c) -∗ own c (accC true (bkn true 5 c)) (srcVal A B true 5 c) -∗ Own (F := F) false 5 (fwd false c) -∗ Own (F := F) true 5 (fwd true c) -∗ extra (F := F) false 5 c -∗ extra (F := F) true 5 c -∗ tokR (F := F) false 5 c -∗ ((Ow c (OR c 0) ∗ semVal (sendCell false 5 c) 0 ∗ own c (accC false (bkn false 5 c)) (srcVal A B false 5 c) ∗ semVal (recvCell false 5 c) 0 ∗ own c (accC false (bkn false 2 c)) (gV A B false (bkn false 2 (bk false c))) ∗ extra (F := F) false 5 (bk false c) ∗ semVal (sendCell true 5 c) 0 ∗ own c (accC true (bkn true 5 c)) (srcVal A B true 5 c)) -∗ Q ⟨⟩)
      -∗ wpc c (k0_part30 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v13 v24) Q) := by
  rw [k0_part30_eq_skeleton]; unfold k0_part30_skel
  simp only [semSignalWord, semWaitWord, Prog.lift, Prog.bind_op, Prog.bind_ret, Prog.pure_eq_ret, wp_deviceId]
  iintro #HC HO HtS0 HtS1 Hs0 Hs1 Hd0 Hd1 He0 He1 HtR0 Hk
  iapply (step_send A B K c false 5 5 rfl (dev13_eq c) (accC_of (show k0_off13 c 2#32 = rowOff false (bkn false 5 c) from off13_eq c 2)) (accC_of ((show k0_off13 c 2#32 = rowOff false (bkn false 5 c) from off13_eq c 2).trans (congrArg (rowOff false) (bkn_fwd3 false 2 c).symm))) rfl rfl (O' := OR c 1) (O := OR c 0 + tallyAt (recvCell true 5 (fwd true c)) () N) rfl) $$ HC HO HtS0 Hs0 Hd0 He0; iintro ⟨HO, HtS0⟩
  iapply (step_send A B K c true 5 5 rfl (dev14_eq c) (accC_of (show k0_off14 c 2#32 = rowOff true (bkn true 5 c) from off14_eq c 2)) (accC_of ((show k0_off14 c 2#32 = rowOff true (bkn true 5 c) from off14_eq c 2).trans (congrArg (rowOff true) (bkn_fwd3 true 2 c).symm))) rfl rfl (O' := OR c 0 + tallyAt (recvCell true 5 (fwd true c)) () N) (O := OR c 0) rfl) $$ HC HO HtS1 Hs1 Hd1 He1; iintro ⟨HO, HtS1⟩
  iapply (step_waitS A B K c false 5 5 rfl 0 (by decide) (by rfl) (by rfl)) $$ HC HO HtS0; iintro ⟨HO, HzS0, Hs0⟩
  iapply (step_waitR A B K c false 5 5 rfl 0 (by decide) (by rfl) (by rfl)) $$ HC HO HtR0; iintro ⟨HO, HzR0, Hl0, He0⟩
  iapply (step_waitS A B K c true 5 5 rfl 0 (by decide) (by rfl) (by rfl)) $$ HC HO HtS1; iintro ⟨HO, HzS1, Hs1⟩
  iapply (step_ret c _)
  iapply Hk
  isplitl [HO]; · iexact HO
  isplitl [HzS0]; · iexact HzS0
  isplitl [Hs0]; · iexact Hs0
  isplitl [HzR0]; · iexact HzR0
  isplitl [Hl0]; · iexact Hl0
  isplitl [He0]; · iexact He0
  isplitl [HzS1]; · iexact HzS1
  iexact Hs1

/-- The rest of hop 5's waits, and the clockwise chunk it brought written out. -/
theorem part31_spec (v2 : BitVec 32) (v13 : BitVec 32) {Q : (Σ' (v995 : BitVec 32) (v1000 : BitVec 1), BitVec 32) → sProp 𝕄} :
    Ctx A B K ⊢ iprop(Ow c (OR c 0) -∗ tokR (F := F) true 5 c -∗ own c (accC false (bkn false 2 c)) (gV A B false (bkn false 2 (bk false c))) -∗ (∃ v, own (F := F) c (outC false (bkn false 2 c)) v) -∗ (∀ a0 : BitVec 32, ∀ a1 : BitVec 1, ∀ a2 : BitVec 32, (Ow c (OR c 0) ∗ semVal (recvCell true 5 c) 0 ∗ own c (accC true (bkn true 2 c)) (gV A B true (bkn true 2 (bk true c))) ∗ extra (F := F) true 5 (bk true c) ∗ own c (accC false (bkn false 2 c)) (gV A B false (bkn false 2 (bk false c))) ∗ own c (outC false (bkn false 2 c)) (k0_pay27 (gV A B false (bkn false 2 (bk false c))))) -∗ Q ⟨a0, a1, a2⟩)
      -∗ wpc c (k0_part31 aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 c v2 v13) Q) := by
  rw [k0_part31_eq_skeleton]; unfold k0_part31_skel
  simp only [semSignalWord, semWaitWord, Prog.lift, Prog.bind_op, Prog.bind_ret, Prog.pure_eq_ret, wp_deviceId]
  iintro #HC HO HtR1 Hl0 Ho0 Hk
  icases Ho0 with ⟨%v_Ho0, Ho0⟩
  iapply (step_waitR A B K c true 5 5 rfl 0 (by decide) (by rfl) (by rfl)) $$ HC HO HtR1; iintro ⟨HO, HzR1, Hl1, He1⟩
  iapply (step_load c accM ((show k0_off15 c 2#32 = rowOff false (bkn false 2 c) from off15_eq c 2)) _) $$ Hl0; iintro Hl0
  iapply (step_load c oM ((show k0_off15 c 2#32 = rowOff false (bkn false 2 c) from off15_eq c 2)) _) $$ Ho0; iintro Ho0
  iapply (step_store c oM ((show k0_off15 c 2#32 = rowOff false (bkn false 2 c) from off15_eq c 2)) _) $$ Ho0; iintro Ho0
  iapply (step_ret c _)
  iapply Hk
  isplitl [HO]; · iexact HO
  isplitl [HzR1]; · iexact HzR1
  isplitl [Hl1]; · iexact Hl1
  isplitl [He1]; · iexact He1
  isplitl [Hl0]; · iexact Hl0
  iexact Ho0

/-- A part of index arithmetic. -/
theorem part21_spec (v2 : BitVec 32) (v24 : BitVec 32) (v652 : BitVec 32) (v657 : BitVec 1) (v658 : BitVec 32) {Q : PUnit → sProp 𝕄} :
    Q ⟨⟩ ⊢ wpc c (k0_part21 (F := F) aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 v2 v24 v652 v657 v658) Q := by
  rw [k0_part21_eq_skeleton]; unfold k0_part21_skel
  exact step_ret c _

/-- A part of index arithmetic. -/
theorem part25_spec (v2 : BitVec 32) (v24 : BitVec 32) (v784 : BitVec 32) (c256_i32_594 : BitVec 32) {Q : PUnit → sProp 𝕄} :
    Q ⟨⟩ ⊢ wpc c (k0_part25 (F := F) aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 v2 v24 v784 c256_i32_594) Q := by
  rw [k0_part25_eq_skeleton]; unfold k0_part25_skel
  exact step_ret c _

/-- A part of index arithmetic. -/
theorem part29_spec (v2 : BitVec 32) (v24 : BitVec 32) (c1_i32_700 : BitVec 32) {Q : PUnit → sProp 𝕄} :
    Q ⟨⟩ ⊢ wpc c (k0_part29 (F := F) aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5 v2 v24 c1_i32_700) Q := by
  rw [k0_part29_eq_skeleton]; unfold k0_part29_skel
  exact step_ret c _

end Cert.KernelIdeal.K

end
-- ==== Proof.Body.lean ====
/- One device's whole run of the kernel, part after part. -/
module

public import proofs.«01_k».proof.Proof.PartsA
public import proofs.«01_k».proof.Proof.PartsB

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → ABlk F) (B : Dev nD → BBlk F) (K : Dev nD × Fin 25 → ℕ) (c : Dev nD)

/-- A part and what follows it. -/
theorem step_bind {α β : Type} (p : Prog (TpuEff nD τ sig (Elt F) Λ₀ .tc) α) (kk : α → Prog (TpuEff nD τ sig (Elt F) Λ₀ .tc) β) {Q : β → sProp 𝕄} :
    wpc c p (fun x => wpc c (kk x) Q) ⊢ wpc c (p >>= kk) Q := Entails.of_eq (wp_bind _ _ _ _ _ _).symm

/-- The last all-gather hops and the first reduce-scatter hop hand nothing on. -/
theorem extra_none (P : sProp 𝕄) (d : Bool) (k : ℕ) (h : k = 0 ∨ k = 4 ∨ k = 5) : P ⊢ extra (F := F) d k c := by
  rcases h with rfl | rfl | rfl <;> (iintro -; unfold extra; iempintro)
/-- What a device hands on with hop 1: the other direction's first slot and its sent chunk. -/
theorem give1 (d d' : Bool) (h : (!d) = d') (v w : Chunk F) :
    own c (dstM d' 0 c) v ⊢ iprop(own c (accC d' (bkn d' 0 c)) w -∗ extra (F := F) d 1 c) := by
  subst h; rw [show extra (F := F) d 1 c = iprop(Own (F := F) (!d) 2 c ∗ Own (F := F) (!d) 3 c) from rfl]; unfold Own
  iintro H1 H2
  isplitl [H1] <;> (iexists _; iassumption)
/-- What a device hands on with hop 2. -/
theorem give2 (d d' : Bool) (h : (!d) = d') (w : Chunk F) : own c (accC d' (bkn d' 1 c)) w ⊢ extra (F := F) d 2 c := by
  subst h; rw [show extra (F := F) d 2 c = Own (F := F) (!d) 4 c from rfl]; unfold Own
  iintro H; iexists _; iexact H
/-- What a device hands on with hop 3. -/
theorem give3 (d d' : Bool) (h : (!d) = d') (w : Chunk F) : own c (accC d' (bkn d' 2 c)) w ⊢ extra (F := F) d 3 c := by
  subst h; rw [show extra (F := F) d 3 c = Own (F := F) (!d) 5 c from rfl]; unfold Own
  iintro H; iexists _; iexact H
/-- What a device gets with hop 1: where the other direction's hops 2 and 3 land. -/
theorem got1 (d d' : Bool) (h : (!d) = d') : extra (F := F) d 1 (bk d c) ⊢ iprop(Own (F := F) d' 2 (fwd d' c) ∗ Own (F := F) d' 3 (fwd d' c)) := by
  subst h; rw [fwd_not]; exact Entails.of_eq rfl
/-- With hop 2 comes the place where hop 4 in the other direction lands on the sender. -/
theorem got2 (d d' : Bool) (h : (!d) = d') : extra (F := F) d 2 (bk d c) ⊢ Own (F := F) d' 4 (fwd d' c) := by
  subst h; rw [fwd_not]; exact Entails.of_eq rfl
/-- With hop 3 comes the place where hop 5 in the other direction lands on the sender. -/
theorem got3 (d d' : Bool) (h : (!d) = d') : extra (F := F) d 3 (bk d c) ⊢ Own (F := F) d' 5 (fwd d' c) := by
  subst h; rw [fwd_not]; exact Entails.of_eq rfl
/-- The chunk an all-gather hop brought is what the next one sends. -/
theorem pass_on (d : Bool) (r : ℕ) :
    own c (accC d (bkn d r c)) (gV A B d (bkn d r (bk d c))) ⊢ own c (accC d (bkn d (r + 4) c)) (srcVal A B d (r + 4) c) :=
  Entails.of_eq (by
    rw [bkn_four, bkn_bk])
/-- A chunk of the accumulator at some value. -/
theorem some_acc (d : Bool) (n : ℕ) (v : Chunk F) : own c (accC d (bkn d n c)) v ⊢ Own (F := F) d (n + 3) c := by
  unfold Own; iintro H; iexists _; iexact H
/-- A chunk that has been sent on is a landing place, at whatever contents. -/
theorem some_acc4 (d : Bool) (n : ℕ) (v : Chunk F) : own c (accC d (bkn d (n + 4) c)) v ⊢ Own (F := F) d (n + 3) c := by
  rw [bkn_four]; exact some_acc c d n v
/-- A landing place at known contents is one at some contents. -/
theorem some_own (d : Bool) (k : ℕ) (v : Chunk F) : own c (dstM d k c) v ⊢ Own (F := F) d k c := by
  unfold Own; iintro H; iexists _; iexact H

/-- A device's tokens at the start: its neighbours' barrier duties, its own barrier's credit and position. -/
def barToks : sProp 𝕄 :=
  iprop(dutyTok ER (barCell (fwd true c)) 0 false
    ∗ dutyTok ER (barCell (fwd false c)) 0 true
    ∗ cred (tallyAt (barCell c) () 2)
    ∗ atPos ER (barCell c) 0 ∅ 0)
/-- A device's tokens for its transfers, at the start. -/
def dmaToks : sProp 𝕄 :=
  iprop(tokS (F := F) false 0 c
    ∗ tokS (F := F) false 1 c
    ∗ tokS (F := F) false 2 c
    ∗ tokS (F := F) false 3 c
    ∗ tokS (F := F) false 4 c
    ∗ tokS (F := F) false 5 c
    ∗ tokS (F := F) true 0 c
    ∗ tokS (F := F) true 1 c
    ∗ tokS (F := F) true 2 c
    ∗ tokS (F := F) true 3 c
    ∗ tokS (F := F) true 4 c
    ∗ tokS (F := F) true 5 c
    ∗ tokR (F := F) false 0 c
    ∗ tokR (F := F) false 1 c
    ∗ tokR (F := F) false 2 c
    ∗ tokR (F := F) false 3 c
    ∗ tokR (F := F) false 4 c
    ∗ tokR (F := F) false 5 c
    ∗ tokR (F := F) true 0 c
    ∗ tokR (F := F) true 1 c
    ∗ tokR (F := F) true 2 c
    ∗ tokR (F := F) true 3 c
    ∗ tokR (F := F) true 4 c
    ∗ tokR (F := F) true 5 c)
/-- A device's memory at the start, cut into chunks and slots. -/
def memStart : sProp 𝕄 :=
  iprop(own c aM (A c)
    ∗ own c bM (B c)
    ∗ (∃ v, own (F := F) c b16M v)
    ∗ Own (F := F) false 3 c
    ∗ Own (F := F) false 4 c
    ∗ Own (F := F) false 5 c
    ∗ Own (F := F) false 6 c
    ∗ Own (F := F) true 3 c
    ∗ Own (F := F) true 4 c
    ∗ Own (F := F) true 5 c
    ∗ Own (F := F) true 6 c
    ∗ Own (F := F) false 0 c
    ∗ Own (F := F) false 1 c
    ∗ Own (F := F) true 0 c
    ∗ Own (F := F) true 1 c
    ∗ (∃ v, own (F := F) c (outC false (bkn false 0 c)) v)
    ∗ (∃ v, own (F := F) c (outC false (bkn false 1 c)) v)
    ∗ (∃ v, own (F := F) c (outC false (bkn false 2 c)) v)
    ∗ (∃ v, own (F := F) c (outC false (bkn false 3 c)) v)
    ∗ (∃ v, own (F := F) c (outC true (bkn true 0 c)) v)
    ∗ (∃ v, own (F := F) c (outC true (bkn true 1 c)) v)
    ∗ (∃ v, own (F := F) c (outC true (bkn true 2 c)) v)
    ∗ (∃ v, own (F := F) c (outC true (bkn true 3 c)) v))
/-- All of a device's semaphores at zero. -/
def semsEnd : sProp 𝕄 :=
  iprop(semVal (barCell c) 0
    ∗ semVal (sendCell false 0 c) 0
    ∗ semVal (sendCell false 1 c) 0
    ∗ semVal (sendCell false 2 c) 0
    ∗ semVal (sendCell false 3 c) 0
    ∗ semVal (sendCell false 4 c) 0
    ∗ semVal (sendCell false 5 c) 0
    ∗ semVal (sendCell true 0 c) 0
    ∗ semVal (sendCell true 1 c) 0
    ∗ semVal (sendCell true 2 c) 0
    ∗ semVal (sendCell true 3 c) 0
    ∗ semVal (sendCell true 4 c) 0
    ∗ semVal (sendCell true 5 c) 0
    ∗ semVal (recvCell false 0 c) 0
    ∗ semVal (recvCell false 1 c) 0
    ∗ semVal (recvCell false 2 c) 0
    ∗ semVal (recvCell false 3 c) 0
    ∗ semVal (recvCell false 4 c) 0
    ∗ semVal (recvCell false 5 c) 0
    ∗ semVal (recvCell true 0 c) 0
    ∗ semVal (recvCell true 1 c) 0
    ∗ semVal (recvCell true 2 c) 0
    ∗ semVal (recvCell true 3 c) 0
    ∗ semVal (recvCell true 4 c) 0
    ∗ semVal (recvCell true 5 c) 0)
/-- A device's memory at the end, but for the result. -/
def memEnd : sProp 𝕄 :=
  iprop(own c aM (A c)
    ∗ own c bM (B c)
    ∗ own c b16M (k0_pay2 (B c))
    ∗ Own (F := F) false 3 c
    ∗ Own (F := F) false 4 c
    ∗ Own (F := F) false 5 c
    ∗ Own (F := F) false 6 c
    ∗ Own (F := F) true 3 c
    ∗ Own (F := F) true 4 c
    ∗ Own (F := F) true 5 c
    ∗ Own (F := F) true 6 c
    ∗ Own (F := F) false 1 c
    ∗ Own (F := F) false 2 c
    ∗ Own (F := F) true 1 c
    ∗ Own (F := F) true 2 c)
/-- The result at the end, chunk by chunk. -/
def outEnd : sProp 𝕄 :=
  iprop(own c (outC false (bkn false 0 c)) (k0_pay27 (gV A B false (bkn false 0 (bk false c))))
    ∗ own c (outC false (bkn false 1 c)) (k0_pay27 (gV A B false (bkn false 1 (bk false c))))
    ∗ own c (outC false (bkn false 2 c)) (k0_pay27 (gV A B false (bkn false 2 (bk false c))))
    ∗ own c (outC false (bkn false 3 c)) (k0_pay20 (accV A B false 3 c))
    ∗ own c (outC true (bkn true 0 c)) (k0_pay27 (gV A B true (bkn true 0 (bk true c))))
    ∗ own c (outC true (bkn true 1 c)) (k0_pay27 (gV A B true (bkn true 1 (bk true c))))
    ∗ own c (outC true (bkn true 2 c)) (k0_pay27 (gV A B true (bkn true 2 (bk true c))))
    ∗ own c (outC true (bkn true 3 c)) (k0_pay20 (accV A B true 3 c)))

set_option maxHeartbeats 2000000 in
/-- One device's run: from its tokens and its memory at any contents to the semaphores at zero and the result. -/
theorem body_spec {Q : PUnit → sProp 𝕄} :
    Ctx A B K ⊢ iprop(Ow c (O₀ c) -∗ barToks (F := F) c -∗ dmaToks (F := F) c -∗ memStart A B c
      -∗ ((Ow c (OR c 0) ∗ semsEnd (F := F) c ∗ memEnd A B c ∗ outEnd A B c) -∗ Q ⟨⟩)
      -∗ wpc c (cc0_body aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5) Q) := by
  rw [cc0_body_eq_skeleton]; unfold cc0_body_skel barToks dmaToks memStart
  iintro #HC HO ⟨Ht0, Ht1, Hcb, Hatb⟩ ⟨HS00, HS01, HS02, HS03, HS04, HS05, HS10, HS11, HS12, HS13, HS14, HS15, HR00, HR01, HR02, HR03, HR04, HR05, HR10, HR11, HR12, HR13, HR14, HR15⟩ ⟨HA, HB, Hb16, Hx00, Hx01, Hx02, Hx03, Hx10, Hx11, Hx12, Hx13, H00, H01, H10, H11, Ho00, Ho01, Ho02, Ho03, Ho10, Ho11, Ho12, Ho13⟩ Hk
  iapply (step_bind c _ _)
  iapply (part1_spec A B K c ) $$ HC HO Ht0 Ht1 H00 H01 H10 H11 Hcb Hatb
  iintro %n1_0 %n1_1 %n1_2 ⟨HO, Hzb, P0, P1⟩
  try dsimp only
  unfold barPay; icases P0 with ⟨D00, D01⟩; icases P1 with ⟨D10, D11⟩
  iapply (step_bind c _ _)
  iapply (part2_spec A B K c _) $$ HC HB Hb16 HA Hx00
  iintro %n2_0 ⟨HB, Hb16, HA, Hx00⟩
  try dsimp only
  iapply (step_bind c _ _)
  iapply (part3_spec A B K c _ _) $$ HC HA Hb16 Hx10
  iintro %n3_0 %n3_1 ⟨HA, Hb16, Hx10⟩
  try dsimp only
  ihave E00 := (extra_none (F := F) c _ false 0 (.inl rfl)) $$ HC
  ihave E10 := (extra_none (F := F) c _ true 0 (.inl rfl)) $$ HC
  iapply (step_bind c _ _)
  iapply (part4_spec A B K c _ _ _ _ _) $$ HC HO HS00 HS10 Hx00 Hx10 D00 D10 E00 E10
  iintro %n4_0 %n4_1 %n4_2 %n4_3 ⟨HO, HS00, HS10⟩
  try dsimp only
  iapply (step_bind c _ _)
  iapply (part5_spec A B K c _ _ _ _ _) $$ HC HA Hb16 Hx01 Hx11
  iintro %n5_0 ⟨HA, Hb16, Hx01, Hx11⟩
  try dsimp only
  iapply (step_bind c _ _)
  iapply (part6_spec A B K c _ _ _) $$ HC HO Hx11 HS00 HR00 HS10
  iintro  ⟨HO, Hx11, Zs00, Hx00, Zs10, Hx10, Zr00, Hl00, G00⟩
  try dsimp only
  iapply (step_bind c _ _)
  iapply (part7_spec A B K c _) $$ HC HO HR10 Hx01 Hl00
  iintro %n7_0 %n7_1 %n7_2 %n7_3 ⟨HO, Zr10, Hl10, G10, Hx01, Hl00⟩
  try dsimp only
  iapply (step_bind c _ _)
  iapply (part8_spec A B K c _ _ _ _ _) $$ HC Hx11 Hl10
  iintro %n8_0 %n8_1 %n8_2 %n8_3 ⟨Hx11, Hl10⟩
  try dsimp only
  ihave E01 := (give1 c false true rfl _ _) $$ Hl10 Hx10
  ihave E11 := (give1 c true false rfl _ _) $$ Hl00 Hx00
  iapply (step_bind c _ _)
  iapply (part9_spec A B K c _ _ _ _ _ _ _) $$ HC HO HS01 HS11 Hx01 Hx11 D01 D11 E01 E11
  iintro %n9_0 %n9_1 %n9_2 %n9_3 ⟨HO, HS01, HS11⟩
  try dsimp only
  iapply (step_bind c _ _)
  iapply (part10_spec A B K c _ _ _ _ _) $$ HC HA Hb16 Hx02
  iintro %n10_0 ⟨HA, Hb16, Hx02⟩
  try dsimp only
  iapply (step_bind c _ _)
  iapply (part11_spec A B K c _ _) $$ HC HO Hx12 HS01 HR01 HS11
  iintro  ⟨HO, Hx12, Zs01, Hx01, Zs11, Hx11, Zr01, Hl01, G01⟩
  try dsimp only
  iapply (step_bind c _ _)
  iapply (part12_spec A B K c _ _) $$ HC HO HR11 Hx02 Hl01
  iintro %n12_0 %n12_1 ⟨HO, Zr11, Hl11, G11, Hx02, Hl01⟩
  try dsimp only
  iapply (step_bind c _ _)
  iapply (part13_spec A B K c _ _ _) $$ HC Hx12 Hl11
  iintro %n13_0 %n13_1 %n13_2 %n13_3 ⟨Hx12, Hl11⟩
  try dsimp only
  ihave GG := (got1 (F := F) c false true rfl) $$ G01
  icases GG with ⟨D12, D13⟩
  ihave GG := (got1 (F := F) c true false rfl) $$ G11
  icases GG with ⟨D02, D03⟩
  ihave E02 := (give2 c false true rfl _) $$ Hx11
  ihave E12 := (give2 c true false rfl _) $$ Hx01
  iapply (step_bind c _ _)
  iapply (part14_spec A B K c _ _ _ _ _ _ _) $$ HC HO HS02 HS12 Hx02 Hx12 D02 D12 E02 E12
  iintro %n14_0 %n14_1 ⟨HO, HS02, HS12⟩
  try dsimp only
  iapply (step_bind c _ _)
  iapply (part15_spec A B K c _ _ _) $$ HC HA Hb16 Hx03
  iintro %n15_0 ⟨HA, Hb16, Hx03⟩
  try dsimp only
  iapply (step_bind c _ _)
  iapply (part16_spec A B K c _ _) $$ HC HO Hx13 Hb16 HS02 HR02 HS12
  iintro  ⟨HO, Hx13, Hb16, Zs02, Hx02, Zs12, Hx12, Zr02, Hl02, G02⟩
  try dsimp only
  iapply (step_bind c _ _)
  iapply (part17_spec A B K c _ _) $$ HC HO HR12 Hx03 Hl02
  iintro %n17_0 %n17_1 %n17_2 ⟨HO, Zr12, Hl12, G12, Hx03, Hl02⟩
  try dsimp only
  iapply (step_bind c _ _)
  iapply (part18_spec A B K c _ _ _ _) $$ HC Hx13 Hl12
  iintro %n18_0 %n18_1 %n18_2 ⟨Hx13, Hl12⟩
  try dsimp only
  ihave D14 := (got2 (F := F) c false true rfl) $$ G02
  ihave D04 := (got2 (F := F) c true false rfl) $$ G12
  iapply (step_bind c _ _)
  iapply (part19_spec A B K c _ _ _) $$ HC Hx03 Ho03 Hx13
  iintro %n19_0 ⟨Hx03, Ho03, Hx13⟩
  try dsimp only
  iapply (step_bind c _ _)
  iapply (part20_spec A B K c _ _) $$ HC Hx13 Ho13
  iintro %n20_0 %n20_1 %n20_2 ⟨Hx13, Ho13⟩
  try dsimp only
  iapply (step_bind c _ _)
  iapply (part21_spec (F := F) c _ _ _ _ _)
  ihave E03 := (give3 c false true rfl _) $$ Hx12
  ihave E13 := (give3 c true false rfl _) $$ Hx02
  iapply (step_bind c _ _)
  iapply (part22_spec A B K c _ _) $$ HC HO HS03 HS13 Hx03 Hx13 D03 D13 E03 E13 HR03
  iintro  ⟨HO, Zs03, Hx03, Zr03, Y00, G03, HS13⟩
  try dsimp only
  iapply (step_bind c _ _)
  iapply (part23_spec A B K c _ _) $$ HC HO HS13 HR13 Y00 Ho00
  iintro %n23_0 %n23_1 %n23_2 %n23_3 %n23_4 ⟨HO, Zs13, Hx13, Zr13, Y10, G13, Y00, Ho00⟩
  try dsimp only
  ihave D15 := (got3 (F := F) c false true rfl) $$ G03
  ihave D05 := (got3 (F := F) c true false rfl) $$ G13
  iapply (step_bind c _ _)
  iapply (part24_spec A B K c _ _ _ _ _ _) $$ HC Y10 Ho10
  iintro %n24_0 %n24_1 ⟨Y10, Ho10⟩
  try dsimp only
  iapply (step_bind c _ _)
  iapply (part25_spec (F := F) c _ _ _ _)
  ihave E04 := (extra_none (F := F) c _ false 4 (by decide)) $$ HC
  ihave Y00 := (pass_on A B c false 0) $$ Y00
  ihave E14 := (extra_none (F := F) c _ true 4 (by decide)) $$ HC
  ihave Y10 := (pass_on A B c true 0) $$ Y10
  iapply (step_bind c _ _)
  iapply (part26_spec A B K c _ _) $$ HC HO HS04 HS14 Y00 Y10 D04 D14 E04 E14 HR04
  iintro  ⟨HO, Zs04, Y00, Zr04, Y01, G04, HS14⟩
  try dsimp only
  iapply (step_bind c _ _)
  iapply (part27_spec A B K c _ _) $$ HC HO HS14 HR14 Y01 Ho01
  iintro %n27_0 %n27_1 %n27_2 %n27_3 ⟨HO, Zs14, Y10, Zr14, Y11, G14, Y01, Ho01⟩
  try dsimp only
  iapply (step_bind c _ _)
  iapply (part28_spec A B K c _ _ _ _ _) $$ HC Y11 Ho11
  iintro %n28_0 ⟨Y11, Ho11⟩
  try dsimp only
  iapply (step_bind c _ _)
  iapply (part29_spec (F := F) c _ _ _)
  ihave E05 := (extra_none (F := F) c _ false 5 (by decide)) $$ HC
  ihave Y01 := (pass_on A B c false 1) $$ Y01
  ihave E15 := (extra_none (F := F) c _ true 5 (by decide)) $$ HC
  ihave Y11 := (pass_on A B c true 1) $$ Y11
  iapply (step_bind c _ _)
  iapply (part30_spec A B K c _ _) $$ HC HO HS05 HS15 Y01 Y11 D05 D15 E05 E15 HR05
  iintro  ⟨HO, Zs05, Y01, Zr05, Y02, G05, Zs15, Y11⟩
  try dsimp only
  iapply (step_bind c _ _)
  iapply (part31_spec A B K c _ _) $$ HC HO HR15 Y02 Ho02
  iintro %n31_0 %n31_1 %n31_2 ⟨HO, Zr15, Y12, G15, Y02, Ho02⟩
  try dsimp only
  simp only [Prog.lift, Prog.bind_op, Prog.bind_ret, Prog.pure_eq_ret]
  icases Ho12 with ⟨%v_Ho12, Ho12⟩
  iapply (step_load c accM ((show k0_off16 c 2#32 = rowOff true (bkn true 2 c) from off16_eq c 2)) _) $$ Y12; iintro Y12
  iapply (step_load c oM ((show k0_off16 c 2#32 = rowOff true (bkn true 2 c) from off16_eq c 2)) _) $$ Ho12; iintro Ho12
  iapply (step_store c oM ((show k0_off16 c 2#32 = rowOff true (bkn true 2 c) from off16_eq c 2)) _) $$ Ho12; iintro Ho12
  iapply (step_ret c _)
  ihave Hx00 := (some_acc4 c false 0 _) $$ Y00
  ihave Hx01 := (some_acc4 c false 1 _) $$ Y01
  ihave Hx02 := (some_acc c false 2 _) $$ Y02
  ihave Hx03 := (some_acc c false 3 _) $$ Hx03
  ihave H01 := (some_own c false 1 _) $$ Hl01
  ihave H02 := (some_own c false 2 _) $$ Hl02
  ihave Hx10 := (some_acc4 c true 0 _) $$ Y10
  ihave Hx11 := (some_acc4 c true 1 _) $$ Y11
  ihave Hx12 := (some_acc c true 2 _) $$ Y12
  ihave Hx13 := (some_acc c true 3 _) $$ Hx13
  ihave H11 := (some_own c true 1 _) $$ Hl11
  ihave H12 := (some_own c true 2 _) $$ Hl12
  iapply Hk
  isplitl [HO]; · iexact HO
  unfold semsEnd memEnd outEnd
  isplitl [Hzb Zs00 Zs01 Zs02 Zs03 Zs04 Zs05 Zs10 Zs11 Zs12 Zs13 Zs14 Zs15 Zr00 Zr01 Zr02 Zr03 Zr04 Zr05 Zr10 Zr11 Zr12 Zr13 Zr14 Zr15]
  · skip
    isplitl [Hzb]; · iexact Hzb
    isplitl [Zs00]; · iexact Zs00
    isplitl [Zs01]; · iexact Zs01
    isplitl [Zs02]; · iexact Zs02
    isplitl [Zs03]; · iexact Zs03
    isplitl [Zs04]; · iexact Zs04
    isplitl [Zs05]; · iexact Zs05
    isplitl [Zs10]; · iexact Zs10
    isplitl [Zs11]; · iexact Zs11
    isplitl [Zs12]; · iexact Zs12
    isplitl [Zs13]; · iexact Zs13
    isplitl [Zs14]; · iexact Zs14
    isplitl [Zs15]; · iexact Zs15
    isplitl [Zr00]; · iexact Zr00
    isplitl [Zr01]; · iexact Zr01
    isplitl [Zr02]; · iexact Zr02
    isplitl [Zr03]; · iexact Zr03
    isplitl [Zr04]; · iexact Zr04
    isplitl [Zr05]; · iexact Zr05
    isplitl [Zr10]; · iexact Zr10
    isplitl [Zr11]; · iexact Zr11
    isplitl [Zr12]; · iexact Zr12
    isplitl [Zr13]; · iexact Zr13
    isplitl [Zr14]; · iexact Zr14
    iexact Zr15
  isplitl [HA HB Hb16 Hx00 Hx01 Hx02 Hx03 Hx10 Hx11 Hx12 Hx13 H01 H02 H11 H12]
  · skip
    isplitl [HA]; · iexact HA
    isplitl [HB]; · iexact HB
    isplitl [Hb16]; · iexact Hb16
    isplitl [Hx00]; · iexact Hx00
    isplitl [Hx01]; · iexact Hx01
    isplitl [Hx02]; · iexact Hx02
    isplitl [Hx03]; · iexact Hx03
    isplitl [Hx10]; · iexact Hx10
    isplitl [Hx11]; · iexact Hx11
    isplitl [Hx12]; · iexact Hx12
    isplitl [Hx13]; · iexact Hx13
    isplitl [H01]; · iexact H01
    isplitl [H02]; · iexact H02
    isplitl [H11]; · iexact H11
    iexact H12
  isplitl [Ho00]; · iexact Ho00
  isplitl [Ho01]; · iexact Ho01
  isplitl [Ho02]; · iexact Ho02
  isplitl [Ho03]; · iexact Ho03
  isplitl [Ho10]; · iexact Ho10
  isplitl [Ho11]; · iexact Ho11
  isplitl [Ho12]; · iexact Ho12
  iexact Ho13

end Cert.KernelIdeal.K

end
-- ==== Proof.Chunks.lean ====
/- A device's buffers cut into the chunks and slots the kernel works on, and put together again. -/
module

public import proofs.«01_k».proof.Proof.Body

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → ABlk F) (B : Dev nD → BBlk F) (c : Dev nD)

/-! ## Where a row lies -/

/-- Which half, which chunk of it, and which place in the chunk an index of a 2048 × 2048 array lies in. -/
def locD (i : S2048x2048.Idx) : Bool := decide (1024 ≤ (i 0).val)
/-- The chunk's number within its half, of an index of the whole array. -/
def locJ (i : S2048x2048.Idx) : Dev nD := ⟨(i 0).val % 1024 / 256, by show _ < 4; omega⟩
/-- The place within its chunk, of an index of the whole array. -/
def locX (i : S2048x2048.Idx) : S256x2048.Idx := fun
  | ⟨0, _⟩ => ⟨(i 0).val % 256, Nat.mod_lt _ (by decide)⟩
  | ⟨1, _⟩ => ⟨(i 1).val, (i 1).isLt⟩

/-- The row in the whole array of a place in chunk `(d, j)`. -/
theorem emb0 (d : Bool) (j : Dev nD) (x : S256x2048.Idx) : ((rows d j).emb x 0).val = 256 * j.val + 1024 * d.toNat + (x 0).val := by
  show (rows d j).off 0 + 1 * _ = _; rw [Nat.one_mul]; rfl
/-- The column in the whole array of a place in a chunk: the same. -/
theorem emb1 (d : Bool) (j : Dev nD) (x : S256x2048.Idx) : ((rows d j).emb x 1).val = (x 1).val := by
  show 0 + 1 * _ = _; rw [Nat.one_mul, Nat.zero_add]

/-- A chunk has 256 rows. -/
theorem x0_lt (x : S256x2048.Idx) : (x 0).val < 256 := (x 0).isLt
/-- There are four devices. -/
theorem j_lt (j : Dev nD) : j.val < 4 := j.isLt

/-- A place in chunk `(d, j)` lies in the half `d`. -/
theorem locD_emb (d : Bool) (j : Dev nD) (x : S256x2048.Idx) : locD ((rows d j).emb x) = d := by
  have := x0_lt x; have := j_lt j
  unfold locD; rw [emb0]
  cases d
  · exact decide_eq_false (by simp only [Bool.toNat_false]; omega)
  · exact decide_eq_true (by simp only [Bool.toNat_true]; omega)
/-- A place in chunk `(d, j)` lies in the chunk `j` of its half. -/
theorem locJ_emb (d : Bool) (j : Dev nD) (x : S256x2048.Idx) : locJ ((rows d j).emb x) = j := by
  have := x0_lt x; have := j_lt j
  refine Fin.ext ?_
  show ((rows d j).emb x 0).val % 1024 / 256 = _
  rw [emb0]
  cases d <;> simp only [Bool.toNat_true, Bool.toNat_false] <;> omega
/-- A place in a chunk, found again from its index in the whole array. -/
theorem locX_emb (d : Bool) (j : Dev nD) (x : S256x2048.Idx) : locX ((rows d j).emb x) = x := by
  have := x0_lt x; have := j_lt j
  funext a
  fin_cases a
  · refine Fin.ext ?_
    show ((rows d j).emb x 0).val % 256 = _
    rw [emb0]
    show _ = (x 0).val
    cases d <;> simp only [Bool.toNat_true, Bool.toNat_false] <;> omega
  · exact Fin.ext (emb1 d j x)
/-- Every index is the place that its half, chunk and place within the chunk name. -/
theorem emb_loc (i : S2048x2048.Idx) : (rows (locD i) (locJ i)).emb (locX i) = i := by
  have h : (i 0).val < 2048 := (i 0).isLt
  funext a
  fin_cases a
  · refine Fin.ext ?_
    show ((rows (locD i) (locJ i)).emb (locX i) 0).val = (i 0).val
    rw [emb0]
    show 256 * ((i 0).val % 1024 / 256) + 1024 * (decide (1024 ≤ (i 0).val)).toNat + (i 0).val % 256 = _
    by_cases h1 : 1024 ≤ (i 0).val
    · rw [decide_eq_true h1]; simp only [Bool.toNat_true]; omega
    · rw [decide_eq_false h1]; simp only [Bool.toNat_false]; omega
  · exact Fin.ext (emb1 _ _ _)

/-- The array whose chunks are `vs`. -/
def glue {e : EltTy} (vs : Bool → Dev nD → S256x2048.Idx → Elt F e) : S2048x2048.Idx → Elt F e := fun i => vs (locD i) (locJ i) (locX i)
/-- At a place of chunk `(d, j)` the glued array has that chunk's value. -/
theorem glue_emb {e : EltTy} (vs : Bool → Dev nD → S256x2048.Idx → Elt F e) (d : Bool) (j : Dev nD) (x : S256x2048.Idx) :
    glue vs ((rows d j).emb x) = vs d j x := by unfold glue; rw [locD_emb, locJ_emb, locX_emb]

/-- How many devices before `c` in direction `d` device `j` is. -/
def ixOf (d : Bool) (c j : Dev nD) : Fin 4 := if bkn d 0 c = j then 0 else if bkn d 1 c = j then 1 else if bkn d 2 c = j then 2 else 3
/-- The device `i` steps back is `i` steps back. -/
theorem ixOf_bkn (d : Bool) (c : Dev nD) (i : Fin 4) : ixOf d c (bkn d i.val c) = i := by revert d c i; decide
/-- Every device is as many steps back as `ixOf` says. -/
theorem bkn_ixOf (d : Bool) (c j : Dev nD) : bkn d (ixOf d c j).val c = j := by revert d c j; decide

/-- The eight chunks, counted from device `c`. -/
abbrev ch (c : Dev nD) (t : Bool × Fin 4) : Rect S2048x2048 := rows t.1 (bkn t.1 t.2.val c)

/-- Two different chunks share no index. -/
theorem ch_disj (t t' : Bool × Fin 4) (h : t ≠ t') : Disjoint (ch c t).set (ch c t').set := by
  rw [Finset.disjoint_left]
  intro i hi hi'
  obtain ⟨x, rfl⟩ := LoadRect.exists_idx_of_mem _ hi
  obtain ⟨x', hx'⟩ := LoadRect.exists_idx_of_mem _ hi'
  have hd : t'.1 = t.1 := by
    exact (locD_emb _ _ x').symm.trans ((congrArg locD hx').trans (locD_emb _ _ x))
  have hj : bkn t'.1 t'.2.val c = bkn t.1 t.2.val c := by
    exact (locJ_emb _ _ x').symm.trans ((congrArg locJ hx').trans (locJ_emb _ _ x))
  refine h (Prod.ext hd.symm ?_)
  exact (ixOf_bkn t.1 c t.2).symm.trans ((congrArg (ixOf t.1 c) hj.symm).trans (by rw [← hd]; exact ixOf_bkn t'.1 c t'.2))

/-- The eight chunks cover the array. -/
theorem ch_cover : (Finset.univ : Finset (Bool × Fin 4)).biUnion (fun t => (ch c t).set) = Finset.univ := by
  refine Finset.eq_univ_iff_forall.mpr fun i => Finset.mem_biUnion.mpr ⟨(locD i, ixOf (locD i) c (locJ i)), Finset.mem_univ _, ?_⟩
  show i ∈ (rows (locD i) (bkn (locD i) (ixOf (locD i) c (locJ i)).val c)).set
  rw [bkn_ixOf]
  have h := LoadRect.idx_mem (r := (rows (locD i) (locJ i)).toLoadRect) (locX i)
  rwa [show (rows (locD i) (locJ i)).toLoadRect.idx (locX i) = i from emb_loc i] at h

/-- Something for each of the eight chunks, written out. -/
theorem bigSep_ch (Φ : Bool × Fin 4 → sProp 𝕄) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ

/-! ## The accumulator and the result's staging buffer -/

/-- The accumulator, whatever it holds, is its eight chunks. -/
theorem acc_split (v : S2048x2048.Idx → Elt F .bf16) : own (F := F) c accM v ⊢ iprop(Own (F := F) false 3 c ∗ Own (F := F) false 4 c ∗ Own (F := F) false 5 c ∗ Own (F := F) false 6 c
    ∗ Own (F := F) true 3 c ∗ Own (F := F) true 4 c ∗ Own (F := F) true 5 c ∗ Own (F := F) true 6 c) := by
  refine (owns_rects (c : Thread nD τ) accM fullShare (ch c) (fun _ _ => rfl) (ch_disj c) (ch_cover c) v).trans ?_
  rw [bigSep_ch]
  iintro ⟨H0, H1, H2, H3, H4, H5, H6, H7⟩
  isplitl [H0]; · unfold Own; iexists _; iexact H0
  isplitl [H1]; · unfold Own; iexists _; iexact H1
  isplitl [H2]; · unfold Own; iexists _; iexact H2
  isplitl [H3]; · unfold Own; iexists _; iexact H3
  isplitl [H4]; · unfold Own; iexists _; iexact H4
  isplitl [H5]; · unfold Own; iexists _; iexact H5
  isplitl [H6]; · unfold Own; iexists _; iexact H6
  unfold Own; iexists _; iexact H7

/-- Its eight chunks, whatever they hold, are the accumulator. -/
theorem acc_join : iprop(Own (F := F) false 3 c ∗ Own (F := F) false 4 c ∗ Own (F := F) false 5 c ∗ Own (F := F) false 6 c
    ∗ Own (F := F) true 3 c ∗ Own (F := F) true 4 c ∗ Own (F := F) true 5 c ∗ Own (F := F) true 6 c) ⊢ iprop(∃ v, own (F := F) c accM v) := by
  unfold Own
  iintro ⟨⟨%v0, H0⟩, ⟨%v1, H1⟩, ⟨%v2, H2⟩, ⟨%v3, H3⟩, ⟨%v4, H4⟩, ⟨%v5, H5⟩, ⟨%v6, H6⟩, ⟨%v7, H7⟩⟩
  iexists (glue (fun d j => (match d, ixOf d c j with
    | false, 0 => v0 | false, 1 => v1 | false, 2 => v2 | false, 3 => v3 | true, 0 => v4 | true, 1 => v5 | true, 2 => v6 | true, 3 => v7 : Chunk F)))
  iapply (owns_of_rects (c : Thread nD τ) accM fullShare (ch c) (fun _ _ => rfl) (ch_disj c) (ch_cover c) _)
  rw [bigSep_ch]
  simp only [glue_emb, ixOf_bkn]
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result's staging buffer, whatever it holds, is its eight chunks. -/
theorem out_split (v : S2048x2048.Idx → Elt F .f32) : own (F := F) c oM v ⊢ iprop((∃ v, own (F := F) c (outC false (bkn false 0 c)) v) ∗ (∃ v, own (F := F) c (outC false (bkn false 1 c)) v)
    ∗ (∃ v, own (F := F) c (outC false (bkn false 2 c)) v) ∗ (∃ v, own (F := F) c (outC false (bkn false 3 c)) v)
    ∗ (∃ v, own (F := F) c (outC true (bkn true 0 c)) v) ∗ (∃ v, own (F := F) c (outC true (bkn true 1 c)) v)
    ∗ (∃ v, own (F := F) c (outC true (bkn true 2 c)) v) ∗ (∃ v, own (F := F) c (outC true (bkn true 3 c)) v)) := by
  refine (owns_rects (c : Thread nD τ) oM fullShare (ch c) (fun _ _ => rfl) (ch_disj c) (ch_cover c) v).trans ?_
  rw [bigSep_ch]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- Chunk `(d, j)` of device `c`'s result: computed from the sum itself where the sum was completed on `c`, else from
    the rounded activation that came along the ring. -/
def outChunk (d : Bool) (j : Dev nD) : S256x2048.Idx → Elt F .f32 :=
  if j = bkn d 3 c then k0_pay20 (accV A B d 3 c) else k0_pay27 (gV A B d (bk d j))
/-- Device `c`'s result. -/
def outAt : S2048x2048.Idx → Elt F .f32 := glue (outChunk A B c)

/-- The chunk that a device computes itself holds the activation, not rounded. -/
theorem outChunk_last (d : Bool) : outChunk A B c d (bkn d 3 c) = k0_pay20 (accV A B d 3 c) := if_pos rfl
/-- Fewer than three steps back is not three steps back. -/
theorem bkn_ne3 (d : Bool) (c : Dev nD) (i : Fin 3) : bkn d i.val c ≠ bkn d 3 c := by revert d c i; decide
/-- The device behind, then `i` steps back, is the same as `i` steps back and then the one behind. -/
theorem bk_comm (d : Bool) (c : Dev nD) (i : Fin 3) : bk d (bkn d i.val c) = bkn d i.val (bk d c) := by revert d c i; decide
/-- A chunk that arrives by the all-gather holds the activation that its device computed, rounded. -/
theorem outChunk_other (d : Bool) (i : Fin 3) : outChunk A B c d (bkn d i.val c) = k0_pay27 (gV A B d (bkn d i.val (bk d c))) := by
  unfold outChunk; rw [if_neg (bkn_ne3 d c i), bk_comm]

/-- The chunks the body leaves are the result. -/
theorem out_join : outEnd A B c ⊢ own (F := F) c oM (outAt A B c) := by
  unfold outEnd
  iintro ⟨H0, H1, H2, H3, H4, H5, H6, H7⟩
  iapply (owns_of_rects (c : Thread nD τ) oM fullShare (ch c) (fun _ _ => rfl) (ch_disj c) (ch_cover c) _)
  rw [bigSep_ch]
  unfold outAt
  simp only [glue_emb]
  isplitl [H0]; · rw [show outChunk A B c false (bkn false ((0 : Fin 4) : ℕ) c) = _ from outChunk_other A B c false 0]; iexact H0
  isplitl [H1]; · rw [show outChunk A B c false (bkn false ((1 : Fin 4) : ℕ) c) = _ from outChunk_other A B c false 1]; iexact H1
  isplitl [H2]; · rw [show outChunk A B c false (bkn false ((2 : Fin 4) : ℕ) c) = _ from outChunk_other A B c false 2]; iexact H2
  isplitl [H3]; · rw [show outChunk A B c false (bkn false ((3 : Fin 4) : ℕ) c) = _ from outChunk_last A B c false]; iexact H3
  isplitl [H4]; · rw [show outChunk A B c true (bkn true ((0 : Fin 4) : ℕ) c) = _ from outChunk_other A B c true 0]; iexact H4
  isplitl [H5]; · rw [show outChunk A B c true (bkn true ((1 : Fin 4) : ℕ) c) = _ from outChunk_other A B c true 1]; iexact H5
  isplitl [H6]; · rw [show outChunk A B c true (bkn true ((2 : Fin 4) : ℕ) c) = _ from outChunk_other A B c true 2]; iexact H6
  rw [show outChunk A B c true (bkn true ((3 : Fin 4) : ℕ) c) = _ from outChunk_last A B c true]; iexact H7

/-! ## The landing buffers -/

/-- The two slots of a landing buffer share no index. -/
theorem slot_disj (s s' : Bool) (h : s ≠ s') : Disjoint (slot s).set (slot s').set := by
  refine Rect.unit_disjoint (0 : Fin 3) ?_
  revert s s'; decide
/-- The two slots cover the landing buffer. -/
theorem slot_cover : (Finset.univ : Finset Bool).biUnion (fun s => (slot s).set) = Finset.univ := by
  refine Finset.eq_univ_iff_forall.mpr fun i => Finset.mem_biUnion.mpr ⟨decide (1 ≤ (i 0).val), Finset.mem_univ _, ?_⟩
  have h0 : (i 0).val < 2 := (i 0).isLt
  have h1 : (i 1).val < 256 := (i 1).isLt
  have h2 : (i 2).val < 2048 := (i 2).isLt
  refine Rect.mem_set_unit.mpr fun a => ?_
  fin_cases a
  · show (decide (1 ≤ (i 0).val)).toNat ≤ (i 0).val ∧ (i 0).val < (decide (1 ≤ (i 0).val)).toNat + 1
    by_cases h : 1 ≤ (i 0).val
    · rw [decide_eq_true h]; simp only [Bool.toNat_true]; omega
    · rw [decide_eq_false h]; simp only [Bool.toNat_false]; omega
  · exact ⟨Nat.zero_le _, by show (i 1).val < 0 + 256; omega⟩
  · exact ⟨Nat.zero_le _, by show (i 2).val < 0 + 2048; omega⟩

/-- A slot seen as a 256 × 2048 array is the slot. -/
theorem slot_squeeze (d s : Bool) (v : S1x256x2048.Idx → Elt F .bf16) :
    own (F := F) c ((commM d).slice (slot s) (fun _ => rfl)) v ⊢ iprop(∃ w, own (F := F) c (slotM d s) w) := by
  unfold own owns
  iintro ⟨%g, %hg, H⟩
  iexists _; iexists g
  isplitr; · ipureintro; rfl
  rw [show (slotM d s).view.set = ((commM d).slice (slot s) (fun _ => rfl)).view.set from View.set_reshape _ _]
  iexact H
/-- Whoever owns a slot as a chunk owns it with its leading axis. -/
theorem slot_unsqueeze (d s : Bool) (w : Chunk F) :
    own (F := F) c (slotM d s) w ⊢ iprop(∃ v, own (F := F) c ((commM d).slice (slot s) (fun _ => rfl)) v) := by
  unfold own owns
  iintro ⟨%g, %hg, H⟩
  iexists _; iexists g
  isplitr; · ipureintro; rfl
  rw [show (slotM d s).view.set = ((commM d).slice (slot s) (fun _ => rfl)).view.set from View.set_reshape _ _]
  iexact H

/-- Something for each of the two slots, written out. -/
theorem bigSep_slots (Φ : Bool → sProp 𝕄) : bigSep Finset.univ Φ = iprop(Φ false ∗ Φ true) :=
  bigSep_univ_eq_bigSepL [false, true] (by decide) (by decide) Φ

/-- A landing buffer, whatever it holds, is its two slots. -/
theorem comm_split (d : Bool) (v : S2x256x2048.Idx → Elt F .bf16) : own (F := F) c (commM d) v ⊢ iprop(Own (F := F) d 0 c ∗ Own (F := F) d 1 c) := by
  refine (owns_rects (c : Thread nD τ) (commM d) fullShare slot (fun _ _ => rfl) slot_disj slot_cover v).trans ?_
  rw [bigSep_slots]
  iintro ⟨H0, H1⟩
  isplitl [H0]
  · unfold Own; iapply (slot_squeeze c d false _) $$ H0
  · unfold Own; iapply (slot_squeeze c d true _) $$ H1

/-- The place in its slot of an index of a landing buffer. -/
def locS (i : S2x256x2048.Idx) : S1x256x2048.Idx := fun
  | ⟨0, _⟩ => (0 : Fin 1)
  | ⟨1, _⟩ => ⟨(i 1).val, (i 1).isLt⟩
  | ⟨2, _⟩ => ⟨(i 2).val, (i 2).isLt⟩
/-- The landing buffer whose slots are `vs`. -/
def glueS (vs : Bool → S1x256x2048.Idx → Elt F .bf16) : S2x256x2048.Idx → Elt F .bf16 := fun i => vs (decide (1 ≤ (i 0).val)) (locS i)
/-- At a place of slot `s` the glued buffer has that slot's value. -/
theorem glueS_emb (vs : Bool → S1x256x2048.Idx → Elt F .bf16) (s : Bool) (x : S1x256x2048.Idx) : glueS vs ((slot s).emb x) = vs s x := by
  have h0 : (x 0).val < 1 := (x 0).isLt
  have e0 : ((slot s).emb x 0).val = s.toNat + (x 0).val := by show s.toNat + 1 * _ = _; rw [Nat.one_mul]
  have e1 : ((slot s).emb x 1).val = (x 1).val := by show 0 + 1 * _ = _; rw [Nat.one_mul, Nat.zero_add]
  have e2 : ((slot s).emb x 2).val = (x 2).val := by show 0 + 1 * _ = _; rw [Nat.one_mul, Nat.zero_add]
  have hs : decide (1 ≤ ((slot s).emb x 0).val) = s := by
    rw [e0]; cases s
    · exact decide_eq_false (by simp only [Bool.toNat_false]; omega)
    · exact decide_eq_true (by simp only [Bool.toNat_true]; omega)
  have hx : locS ((slot s).emb x) = x := by
    funext a
    fin_cases a
    · refine Fin.ext ?_; show 0 = (x 0).val; omega
    · exact Fin.ext e1
    · exact Fin.ext e2
  unfold glueS; rw [hs, hx]

/-- Its two slots, whatever they hold, are the landing buffer. -/
theorem comm_join (d : Bool) : iprop(Own (F := F) d 1 c ∗ Own (F := F) d 2 c) ⊢ iprop(∃ v, own (F := F) c (commM d) v) := by
  unfold Own
  iintro ⟨⟨%w1, H1⟩, ⟨%w0, H0⟩⟩
  ihave H0 := (slot_unsqueeze c d false w0) $$ H0
  ihave H1 := (slot_unsqueeze c d true w1) $$ H1
  icases H0 with ⟨%v0, H0⟩
  icases H1 with ⟨%v1, H1⟩
  iexists (glueS (fun s => match s with | false => v0 | true => v1))
  iapply (owns_of_rects (c : Thread nD τ) (commM d) fullShare slot (fun _ _ => rfl) slot_disj slot_cover _)
  rw [bigSep_slots]
  simp only [glueS_emb]
  isplitl [H0]; · iexact H0
  iexact H1

end Cert.KernelIdeal.K

end
-- ==== Proof.Launch.lean ====
/- The launch: the rounds funded and the tokens dealt around the ring, the credits, the body's obligation, and the run of
   the whole program on four devices. -/
module

public import proofs.«01_k».proof.Proof.Chunks
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The two operands as staged on device `c`. -/
def Ain (c : Dev nD) : ABlk F := (win0_0.blk (0 : Fin 1)).view.read (Elt F) (m ((c : Thread nD τ).loc main_arg0))
/-- Device `c`'s block of the right operand, as the launch stages it. -/
def Bin (c : Dev nD) : BBlk F := (win0_1.blk (0 : Fin 1)).view.read (Elt F) (m ((c : Thread nD τ).loc main_arg1))

/-- Something for each of a device's 25 cells, written out by the cells' names. -/
theorem bigSep_fin25 (Φ : Fin 25 → sProp 𝕄) : bigSep Finset.univ Φ
    = iprop(Φ 0 ∗ Φ (sendIx false 0) ∗ Φ (sendIx false 1) ∗ Φ (sendIx false 2) ∗ Φ (sendIx false 3) ∗ Φ (sendIx false 4) ∗ Φ (sendIx false 5) ∗ Φ (sendIx true 0) ∗ Φ (sendIx true 1) ∗ Φ (sendIx true 2) ∗ Φ (sendIx true 3) ∗ Φ (sendIx true 4) ∗ Φ (sendIx true 5) ∗ Φ (recvIx false 0) ∗ Φ (recvIx false 1) ∗ Φ (recvIx false 2) ∗ Φ (recvIx false 3) ∗ Φ (recvIx false 4) ∗ Φ (recvIx false 5) ∗ Φ (recvIx true 0) ∗ Φ (recvIx true 1) ∗ Φ (recvIx true 2) ∗ Φ (recvIx true 3) ∗ Φ (recvIx true 4) ∗ Φ (recvIx true 5)) :=
  bigSep_univ_eq_bigSepL [0, sendIx false 0, sendIx false 1, sendIx false 2, sendIx false 3, sendIx false 4, sendIx false 5, sendIx true 0, sendIx true 1, sendIx true 2, sendIx true 3, sendIx true 4, sendIx true 5, recvIx false 0, recvIx false 1, recvIx false 2, recvIx false 3, recvIx false 4, recvIx false 5, recvIx true 0, recvIx true 1, recvIx true 2, recvIx true 3, recvIx true 4, recvIx true 5] (by decide) (by decide) Φ

/-! ## What a device starts from -/

/-- Which device's cell `k` device `c` pays into: its own send cells, the neighbours' others. -/
def turn (k : Fin 25) : Dev nD ≃ Dev nD := if k.val = 0 then ring true else if k.val < 13 then Equiv.refl _ else if k.val < 19 then ring false else ring true

/-- A device's positions, and the tokens of the duties it pays. -/
def linear (c : Dev nD) : sProp 𝕄 :=
  iprop((bigSep Finset.univ fun k : Fin 25 => atPos ER (kcell (c, k)) 0 ∅ 0)
    ∗ (bigSep Finset.univ fun k : Fin 25 => dutyTok ER (kcell (turn k c, k)) 0 false)
    ∗ dutyTok ER (barCell (ring false c)) 0 true)

/-- A device's credits at the start: two at its barrier, one transfer at each receive cell. -/
def creds (c : Dev nD) : sProp 𝕄 :=
  iprop(cred (tallyAt (barCell c) () 2) ∗ cred (tallyAt (recvCell false 0 c) () N) ∗ cred (tallyAt (recvCell false 1 c) () N) ∗ cred (tallyAt (recvCell false 2 c) () N) ∗ cred (tallyAt (recvCell false 3 c) () N) ∗ cred (tallyAt (recvCell false 4 c) () N) ∗ cred (tallyAt (recvCell false 5 c) () N) ∗ cred (tallyAt (recvCell true 0 c) () N) ∗ cred (tallyAt (recvCell true 1 c) () N) ∗ cred (tallyAt (recvCell true 2 c) () N) ∗ cred (tallyAt (recvCell true 3 c) () N) ∗ cred (tallyAt (recvCell true 4 c) () N) ∗ cred (tallyAt (recvCell true 5 c) () N))

set_option maxRecDepth 8000 in
/-- A device's tokens and credits, sorted into those of the barrier and those of the transfers. -/
theorem toks_flat (c : Dev nD) : iprop(linear (F := F) c ∗ creds (F := F) c) ⊢ iprop(barToks (F := F) c ∗ dmaToks (F := F) c) := by
  unfold linear creds
  rw [bigSep_fin25, bigSep_fin25]
  iintro ⟨⟨⟨HAb, HAs00, HAs01, HAs02, HAs03, HAs04, HAs05, HAs10, HAs11, HAs12, HAs13, HAs14, HAs15, HAr00, HAr01, HAr02, HAr03, HAr04, HAr05, HAr10, HAr11, HAr12, HAr13, HAr14, HAr15⟩, ⟨HDb, HDs00, HDs01, HDs02, HDs03, HDs04, HDs05, HDs10, HDs11, HDs12, HDs13, HDs14, HDs15, HDr00, HDr01, HDr02, HDr03, HDr04, HDr05, HDr10, HDr11, HDr12, HDr13, HDr14, HDr15⟩, Ht⟩, HCb, HCr00, HCr01, HCr02, HCr03, HCr04, HCr05, HCr10, HCr11, HCr12, HCr13, HCr14, HCr15⟩
  unfold barToks dmaToks tokS tokR
  isplitl [HDb Ht HCb HAb]
  · isplitl [HDb]; · iexact HDb
    isplitl [Ht]; · iexact Ht
    isplitl [HCb]; · iexact HCb
    iexact HAb
  isplitl [HDs00 HDr00 HAs00]
  · isplitl [HDs00]; · iexact HDs00
    isplitl [HDr00]; · iexact HDr00
    iexact HAs00
  isplitl [HDs01 HDr01 HAs01]
  · isplitl [HDs01]; · iexact HDs01
    isplitl [HDr01]; · iexact HDr01
    iexact HAs01
  isplitl [HDs02 HDr02 HAs02]
  · isplitl [HDs02]; · iexact HDs02
    isplitl [HDr02]; · iexact HDr02
    iexact HAs02
  isplitl [HDs03 HDr03 HAs03]
  · isplitl [HDs03]; · iexact HDs03
    isplitl [HDr03]; · iexact HDr03
    iexact HAs03
  isplitl [HDs04 HDr04 HAs04]
  · isplitl [HDs04]; · iexact HDs04
    isplitl [HDr04]; · iexact HDr04
    iexact HAs04
  isplitl [HDs05 HDr05 HAs05]
  · isplitl [HDs05]; · iexact HDs05
    isplitl [HDr05]; · iexact HDr05
    iexact HAs05
  isplitl [HDs10 HDr10 HAs10]
  · isplitl [HDs10]; · iexact HDs10
    isplitl [HDr10]; · iexact HDr10
    iexact HAs10
  isplitl [HDs11 HDr11 HAs11]
  · isplitl [HDs11]; · iexact HDs11
    isplitl [HDr11]; · iexact HDr11
    iexact HAs11
  isplitl [HDs12 HDr12 HAs12]
  · isplitl [HDs12]; · iexact HDs12
    isplitl [HDr12]; · iexact HDr12
    iexact HAs12
  isplitl [HDs13 HDr13 HAs13]
  · isplitl [HDs13]; · iexact HDs13
    isplitl [HDr13]; · iexact HDr13
    iexact HAs13
  isplitl [HDs14 HDr14 HAs14]
  · isplitl [HDs14]; · iexact HDs14
    isplitl [HDr14]; · iexact HDr14
    iexact HAs14
  isplitl [HDs15 HDr15 HAs15]
  · isplitl [HDs15]; · iexact HDs15
    isplitl [HDr15]; · iexact HDr15
    iexact HAs15
  isplitl [HCr00 HAr00]
  · isplitl [HCr00]; · iexact HCr00
    iexact HAr00
  isplitl [HCr01 HAr01]
  · isplitl [HCr01]; · iexact HCr01
    iexact HAr01
  isplitl [HCr02 HAr02]
  · isplitl [HCr02]; · iexact HCr02
    iexact HAr02
  isplitl [HCr03 HAr03]
  · isplitl [HCr03]; · iexact HCr03
    iexact HAr03
  isplitl [HCr04 HAr04]
  · isplitl [HCr04]; · iexact HCr04
    iexact HAr04
  isplitl [HCr05 HAr05]
  · isplitl [HCr05]; · iexact HCr05
    iexact HAr05
  isplitl [HCr10 HAr10]
  · isplitl [HCr10]; · iexact HCr10
    iexact HAr10
  isplitl [HCr11 HAr11]
  · isplitl [HCr11]; · iexact HCr11
    iexact HAr11
  isplitl [HCr12 HAr12]
  · isplitl [HCr12]; · iexact HCr12
    iexact HAr12
  isplitl [HCr13 HAr13]
  · isplitl [HCr13]; · iexact HCr13
    iexact HAr13
  isplitl [HCr14 HAr14]
  · isplitl [HCr14]; · iexact HCr14
    iexact HAr14
  isplitl [HCr15]; · iexact HCr15
  iexact HAr15

variable (A : Dev nD → ABlk F) (B : Dev nD → BBlk F)

/-- The invariants of all cells and that each is at round 0 at least. -/
def records (K : Dev nD × Fin 25 → ℕ) : sProp 𝕄 :=
  iprop((bigSep Finset.univ fun p : Dev nD × Fin 25 => cellInv ER (Rd A B) (K p) (kcell p))
    ∗ bigSep Finset.univ fun p : Dev nD × Fin 25 => reached ER (kcell p) 0)
/-- The records may be used any number of times. -/
instance records_persistent (K : Dev nD × Fin 25 → ℕ) : BI.Persistent (records A B K) := by unfold records; infer_instance

/-- What the launch's global step makes for device `c`. -/
def G' (c : Dev nD) : sProp 𝕄 := iprop(∃ K, records A B K ∗ linear (F := F) c)

/-- What device `c`'s body starts from beside its memory. -/
def start (c : Dev nD) : sProp 𝕄 := iprop(∃ K, Ctx A B K ∗ linear (F := F) c ∗ creds (F := F) c)

/-- The kernel's scratch buffers, whatever they hold. -/
def scr (c : Dev nD) : sProp 𝕄 :=
  iprop((∃ v, own (F := F) c accM v) ∗ (∃ v, own (F := F) c b16M v) ∗ (∃ v, own (F := F) c (commM false) v) ∗ (∃ v, own (F := F) c (commM true) v))

/-- The buffers of the call's scope are the kernel's scratch buffers. -/
theorem scr_eq (c : Dev nD) : (Pipeline.scopedRest cfg0.spec c : sProp 𝕄) = scr (F := F) c := by
  rw [scopedRest0_eq]
  unfold scr own
  simp only [owns_whole]
  rfl

/-- What the launch's pipeline keeps: the operands at the start, the result at the end, and what the body needs and
    leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Ain m c
    | ⟨1, _⟩ => Bin m c
    | ⟨2, _⟩ => outAt (Ain m) (Bin m) c
  Φ t := match t with
    | ⟨0, _⟩ => iprop(start (Ain m) (Bin m) c ∗ scr (F := F) c)
    | ⟨_ + 1, _⟩ => iprop(scr (F := F) c ∗ semsEnd (F := F) c)
  q _ := fullShare
  owed t := match t with
    | ⟨0, _⟩ => O₀ c
    | ⟨_ + 1, _⟩ => 0

/-! ## The body's obligation -/

/-- The only step of the grid. -/
def t₀ : Fin cfg0.N := t0_0

/-- What the body starts from: the staged operands and the start of the protocol. -/
def bodyPre (c : Dev nD) : sProp 𝕄 :=
  iprop((start (Ain m) (Bin m) c ∗ scr (F := F) c) ∗ (dats m ρ 0 c).owesAt () t₀.castSucc
    ∗ (∃ d, own c aM ((dats m ρ 0 c).before (0 : Fin 3) t₀ d))
    ∗ (∃ d, own c bM ((dats m ρ 0 c).before (1 : Fin 3) t₀ d))
    ∗ (∃ d, own c oM ((dats m ρ 0 c).before (2 : Fin 3) t₀ d)))

/-- What the body ends with: the staged operands, the result and the semaphores at zero. -/
def bodyPost (c : Dev nD) : sProp 𝕄 :=
  iprop((scr (F := F) c ∗ semsEnd (F := F) c) ∗ (dats m ρ 0 c).owesAt () t₀.succ
    ∗ own c aM (Ain m c) ∗ own c bM (Bin m c) ∗ own c oM (outAt (Ain m) (Bin m) c))

/-- The left operand is staged when the body starts. -/
theorem before0 (c : Dev nD) (d) : (dats m ρ 0 c).before (0 : Fin 3) t₀ d = Ain m c := by
  unfold Dat.before; rw [if_pos (fetch0_0 t₀)]; rfl
/-- The right operand is staged when the body starts. -/
theorem before1 (c : Dev nD) (d) : (dats m ρ 0 c).before (1 : Fin 3) t₀ d = Bin m c := by
  unfold Dat.before; rw [if_pos (fetch0_1 t₀)]; rfl

/-- The body runs from the one to the other. -/
theorem body_runs (c : Dev nD) :
    bodyPre m ρ c ⊢ wpc c (cc0_body aM (Memref.isWhole_whole _) bM (Memref.isWhole_whole _) oM (Memref.isWhole_whole _) accM (Memref.isWhole_whole _) b16M (Memref.isWhole_whole _) (commM false) (Memref.isWhole_whole cc0_scratch2) (commM true) (Memref.isWhole_whole cc0_scratch3) cc0_scratch4 cc0_scratch5) (fun _ => bodyPost m ρ c) := by
  unfold bodyPre start scr
  simp only [before0, before1]
  iintro ⟨⟨⟨%K, HC, Hl⟩, ⟨%va, Hacc⟩, Hb16, ⟨%v2, Hc2⟩, ⟨%v3, Hc3⟩⟩, Ho, ⟨%d0, Ha⟩, ⟨%d1, Hb⟩, ⟨%d2, Hout⟩⟩
  ihave Ht := (toks_flat (F := F) c) $$ Hl
  icases Ht with ⟨Hbar, Hdma⟩
  unfold Dat.owesAt Pipeline.owesWithin
  icases Ho with ⟨%W, %hW, HO⟩
  rw [show (dats m ρ 0 c).owed t₀.castSucc = O₀ c from rfl]
  ihave Hacc := (acc_split c va) $$ Hacc
  icases Hacc with ⟨X0, X1, X2, X3, X4, X5, X6, X7⟩
  ihave Hc2 := (comm_split c false v2) $$ Hc2
  icases Hc2 with ⟨P0, P1⟩
  ihave Hc3 := (comm_split c true v3) $$ Hc3
  icases Hc3 with ⟨Q0, Q1⟩
  ihave Hout := (out_split c _) $$ Hout
  icases Hout with ⟨Y0, Y1, Y2, Y3, Y4, Y5, Y6, Y7⟩
  iapply (body_spec (Ain m) (Bin m) K c) $$ HC [HO] Hbar Hdma [Ha Hb Hb16 X0 X1 X2 X3 X4 X5 X6 X7 P0 P1 Q0 Q1 Y0 Y1 Y2 Y3 Y4 Y5 Y6 Y7]
  · unfold Ow; iexists _; iexact HO
  · unfold memStart
    isplitl [Ha]; · iexact Ha
    isplitl [Hb]; · iexact Hb
    isplitl [Hb16]; · iexact Hb16
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [P0]; · iexact P0
    isplitl [P1]; · iexact P1
    isplitl [Q0]; · iexact Q0
    isplitl [Q1]; · iexact Q1
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  unfold memEnd
  iintro ⟨HO, Hs, ⟨Ha, Hb, Hb16, X0, X1, X2, X3, X4, X5, X6, X7, P1, P2, Q1, Q2⟩, Hout⟩
  unfold bodyPost scr
  isplitr [HO Ha Hb Hout]
  · isplitr [Hs]; swap; · iexact Hs
    isplitl [X0 X1 X2 X3 X4 X5 X6 X7]
    · iapply (acc_join (F := F) c)
      isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    isplitl [Hb16]; · iexists _; iexact Hb16
    isplitl [P1 P2]
    · iapply (comm_join (F := F) c false)
      isplitl [P1] <;> iassumption
    · iapply (comm_join (F := F) c true)
      isplitl [Q1] <;> iassumption
  isplitl [HO]
  · unfold Ow Dat.owesAt Pipeline.owesWithin
    icases HO with ⟨%W', HO⟩
    rw [show (dats m ρ 0 c).owed t₀.succ = OR c 0 from rfl]
    iexists W'; isplitr; · ipureintro; exact fun _ _ => Or.inl trivial
    iexact HO
  isplitl [Ha]; · iexact Ha
  isplitl [Hb]; · iexact Hb
  iapply (out_join (Ain m) (Bin m) c) $$ Hout

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  exact body_runs m ρ c

/-! ## The launch -/

/-- The kernel's own semaphores. -/
abbrev osem : Fin 24 → SemLoc sig := fun i => .dma ⟨3 + i.val, by have := i.isLt; show 3 + i.val < 27; omega⟩

/-- The kernel's own semaphores are those of its two arrays. -/
theorem ownSemFacts : Pipeline.OwnSemFacts cfg0.spec osem := by decide

/-- Every operand is held whole. -/
theorem share_eq (c : Dev nD) (w : Fin cfg0.W) : (dats m ρ 0 c).share w = fullShare := by unfold Dat.share; split <;> rfl

/-- Different numbers name different semaphores. -/
theorem csem_injective : Function.Injective csem := by decide
/-- Different devices or numbers name different cells. -/
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the four devices. -/
def ringCells : Finset (GSem nD τ sig) := Finset.univ.map ⟨kcell, kcell_injective⟩

/-- Both duties of every cell. -/
abbrev tokOf (x : Bool × (Dev nD × Fin 25)) : GSem nD τ sig × ℕ × Bool := (kcell x.2, 0, x.1)
/-- Different duties have different tokens. -/
theorem tokOf_injective : Function.Injective tokOf := by
  rintro ⟨b, x⟩ ⟨b', x'⟩ h
  have h1 : b = b' := congrArg (fun g : GSem nD τ sig × ℕ × Bool => g.2.2) h
  have h2 : x = x' := kcell_injective (congrArg (fun g : GSem nD τ sig × ℕ × Bool => g.1) h)
  rw [h1, h2]
/-- The tokens of all duties. -/
def ringToks : Finset (GSem nD τ sig × ℕ × Bool) := Finset.univ.map ⟨tokOf, tokOf_injective⟩

/-- The resource that the launch starts with. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 25 => dutyTok ER (kcell (c, k)) 0 false)
    ∗ bigSep Finset.univ fun k : Fin 25 => dutyTok ER (kcell (c, k)) 0 true)

/-- What the launch element deals device `c`. -/
def G (c : Dev nD) : sProp 𝕄 :=
  iprop((bigSep Finset.univ fun k : Fin 25 => roundState ER (Rd A B) (kcell (c, k)) 0)
    ∗ (bigSep Finset.univ fun k : Fin 25 => iprop(atPos ER (kcell (c, k)) 0 ∅ 0 ∗ reached ER (kcell (c, k)) 0)) ∗ toks (F := F) c)

/-- Something for each of the two directions, written out. -/
theorem bigSep_bool (Φ : Bool → sProp 𝕄) : bigSep Finset.univ Φ = iprop(Φ false ∗ Φ true) :=
  bigSep_univ_eq_bigSepL [false, true] (by decide) (by decide) Φ

/-- The starting resource gives every device its cells, their reached rounds and tokens. -/
theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod, bigSep_bool, bigSep_univ_prod, bigSep_univ_prod]
    unfold toks; rw [bigSep_sep']; rfl
  iintro HX
  imod (Rounds.fund ER (Rd A B) ringCells ringToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores and the barrier, at zero. -/
theorem sems_eq (c : Dev nD) :
    (iprop(unscopedSems0 c ∗ Pipeline.ownSems0 (Ix := Unit) (Name := ℕ) (U := UU) (Lvl := ℕ) (Val := Elt F) (τ := τ) osem c) : sProp 𝕄) = semsEnd (F := F) c := by
  rw [Pipeline.ownSems0_eq_of_list c osem [0, 1, 2, 3, 4, 5, 6, 7, 8, 9, 10, 11, 12, 13, 14, 15, 16, 17, 18, 19, 20, 21, 22, 23] (by decide) (by decide)]
  unfold unscopedSems0; rw [bigSep_eq_bigSepL_of_eq [SemLoc.reg barS] (by decide) (by decide)]
  rfl
/-- A device's semaphores at zero are its 25 cells at zero. -/
theorem semsEnd_eq (c : Dev nD) : semsEnd (F := F) c = (bigSep Finset.univ fun k : Fin 25 => semVal (kcell (c, k)) 0 : sProp 𝕄) := by
  rw [bigSep_fin25]; rfl

/-- A device's semaphores at zero become the invariants of its cells. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (Rd A B) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq ((sems_eq (F := F) c).trans (semsEnd_eq c))) $$ [Hos Hus]
  · isplitl [Hus] <;> iassumption
  imod (show iprop((bigSep Finset.univ fun k : Fin 25 => semVal (kcell (c, k)) 0) ∗ bigSep Finset.univ fun k : Fin 25 => roundState ER (Rd A B) (kcell (c, k)) 0)
      ⊢ (|={Set.univ}=> bigSep Finset.univ fun k => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Of the second duties only that of the barrier is used. -/
theorem bar_only (c : Dev nD) : (bigSep Finset.univ fun k : Fin 25 => (dutyTok ER (kcell (c, k)) 0 true : sProp 𝕄)) ⊢ dutyTok ER (barCell c) 0 true :=
  bigSep_elim (Finset.mem_univ (0 : Fin 25))

/-- Every device hands the barrier's second token to the neighbour that pays it. -/
theorem bars_around : (bigSep Finset.univ fun c : Dev nD => bigSep Finset.univ fun k : Fin 25 => (dutyTok ER (kcell (c, k)) 0 true : sProp 𝕄))
    ⊢ bigSep Finset.univ fun c : Dev nD => dutyTok ER (barCell (ring false c)) 0 true :=
  (bigSep_mono fun c _ => bar_only (F := F) c).trans
    (Entails.of_eq (bigSep_univ_equiv (ring false) (fun c : Dev nD => (dutyTok ER (barCell c) 0 true : sProp 𝕄))))

/-- The tokens dealt around the ring, each to the device that pays its duty. -/
theorem toks_around : (bigSep Finset.univ fun c : Dev nD => (toks (F := F) c : sProp 𝕄))
    ⊢ bigSep Finset.univ fun c : Dev nD => iprop((bigSep Finset.univ fun k : Fin 25 => dutyTok ER (kcell (turn k c, k)) 0 false)
        ∗ dutyTok ER (barCell (ring false c)) 0 true) := by
  unfold toks
  rw [bigSep_sep', bigSep_sep', bigSep_univ_comm, bigSep_univ_comm (fun (c : Dev nD) (k : Fin 25) => (dutyTok ER (kcell (turn k c, k)) 0 false : sProp 𝕄))]
  iintro ⟨H1, H2⟩
  isplitl [H1]
  · iapply (Entails.of_eq (bigSep_congr (fun (k : Fin 25) _ => bigSep_univ_equiv (turn k) (fun c : Dev nD => (dutyTok ER (kcell (c, k)) 0 false : sProp 𝕄))))) $$ H1
  · iapply (bars_around (F := F)) $$ H2

/-- All devices' tokens, passed to those who pay them. -/
theorem linear_intro : iprop((bigSep Finset.univ fun c : Dev nD => bigSep Finset.univ fun k : Fin 25 => atPos ER (kcell (c, k)) 0 ∅ 0)
      ∗ bigSep Finset.univ fun c : Dev nD => iprop((bigSep Finset.univ fun k : Fin 25 => dutyTok ER (kcell (turn k c, k)) 0 false)
        ∗ dutyTok ER (barCell (ring false c)) 0 true))
    ⊢ (bigSep Finset.univ fun c : Dev nD => linear (F := F) c : sProp 𝕄) := by
  unfold linear; exact Entails.of_eq (bigSep_sep' _ _ _).symm

/-- What all devices have set up, shared out again: the invariants to everyone, the rest to each device. -/
theorem regroup :
    (bigSep Finset.univ fun c : Dev nD => iprop((bigSep Finset.univ fun k => iprop(∃ κ : ℕ, cellInv ER (Rd A B) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' A B) := by
  rw [bigSep_sep', bigSep_sep', ← bigSep_univ_prod (fun ck : Dev nD × Fin 25 => iprop(∃ κ : ℕ, cellInv ER (Rd A B) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (Rd A B) κ (kcell ck) : sProp 𝕄))) $$ HI
  icases HK with ⟨%K, #HI⟩
  ihave Htk := (toks_around (F := F)) $$ Htok
  iapply (bigSep_with_persistent (R := records A B K) (Φ := fun c => linear (F := F) c) fun c _ => show _ ⊢ G' A B c from by unfold G'; iintro H; iexists K; iexact H)
  isplitr
  · unfold records; isplitl; · iexact HI
    iexact HR
  · iapply (linear_intro (F := F))
    isplitl [Hat]; · iexact Hat
    iexact Htk

/-- The launch's global step: every cell's invariant allocated, every device given its share. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ### The launch credit -/

/-- Two cells are equal if device and semaphore are. -/
theorem cell_iff {a b : Dev nD} {s s' : SemLoc sig} : ((((a : Thread nD τ), s) : GSem nD τ sig) = ((b : Thread nD τ), s')) ↔ a = b ∧ s = s' :=
  ⟨fun h => ⟨congrArg (fun g : GSem nD τ sig => g.1.1) h, congrArg Prod.snd h⟩, fun ⟨h, h'⟩ => by rw [h, h']⟩
/-- Two receive semaphores are equal if direction and hop are. -/
theorem recvQ_iff (d d' : Bool) (k k' : Fin 6) : (SemLoc.dma (recvQ d k) : SemLoc sig) = SemLoc.dma (recvQ d' k') ↔ d = d' ∧ k = k' := by revert d d' k k'; decide
/-- One device is ahead of another if the other is behind it. -/
theorem fwd_iff (d : Bool) (e c : Dev nD) : c = fwd d e ↔ e = bk d c := by revert d e c; decide
/-- A receive cell is not a barrier. -/
theorem recv_ne_bar (d : Bool) (k : Fin 6) (a b : Dev nD) : recvCell d k a ≠ barCell b := fun h => by cases congrArg Prod.snd h

/-- What device `e` owes at a receive cell while `n` hops remain: one transfer if it sends to that device and the hop remains. -/
theorem OR_recv (e c : Dev nD) (d : Bool) (k : Fin 6) (n : ℕ) (hn : n ≤ 6) : OR e n (recvCell d k c) () = if e = bk d c ∧ 6 ≤ n + k.val then N else 0 := by
  have hk := k.isLt
  induction n with
  | zero => rw [if_neg (fun h => by omega)]; rfl
  | succ n ih =>
    unfold OR
    rw [Pi.add_apply, Finsupp.add_apply, Pi.add_apply, Finsupp.add_apply, tallyAt_apply, tallyAt_apply, ih (by omega)]
    have e1 : (k = hop n) ↔ k.val = 5 - n := Fin.ext_iff
    simp only [cell_iff, recvQ_iff, fwd_iff, and_true, e1]
    by_cases h1 : k.val = 5 - n
    · rw [if_neg (fun h => by omega), Nat.zero_add]
      cases d
      · rw [if_neg (fun h => by cases h.2.1), Nat.zero_add]
        by_cases h2 : e = bk false c
        · rw [if_pos ⟨h2, rfl, h1⟩, if_pos ⟨h2, by omega⟩]
        · rw [if_neg (fun h => h2 h.1), if_neg (fun h => h2 h.1)]
      · rw [if_neg (c := e = bk false c ∧ _) (fun h => by cases h.2.1), Nat.add_zero]
        by_cases h2 : e = bk true c
        · rw [if_pos ⟨h2, rfl, h1⟩, if_pos ⟨h2, by omega⟩]
        · rw [if_neg (fun h => h2 h.1), if_neg (fun h => h2 h.1)]
    · rw [if_neg (c := e = bk true c ∧ _) (fun h => h1 h.2.2), if_neg (c := e = bk false c ∧ (_ ∧ _)) (fun h => h1 h.2.2), Nat.add_zero, Nat.add_zero]
      by_cases h2 : e = bk d c ∧ 6 ≤ n + k.val
      · rw [if_pos h2, if_pos ⟨h2.1, by omega⟩]
      · rw [if_neg h2, if_neg (fun h => h2 ⟨h.1, by omega⟩)]

/-- The hops owe nothing to a barrier. -/
theorem OR_bar (e c : Dev nD) (n : ℕ) : OR e n (barCell c) () = 0 := by
  induction n with
  | zero => rfl
  | succ n ih =>
    unfold OR
    rw [Pi.add_apply, Finsupp.add_apply, Pi.add_apply, Finsupp.add_apply, ih, tallyAt_ne_cell (fun h => recv_ne_bar _ _ _ _ h.symm), tallyAt_ne_cell (fun h => recv_ne_bar _ _ _ _ h.symm)]
    rfl

/-- A receive cell is owed one chunk's credit, by the device behind. -/
theorem owed_recv (e c : Dev nD) (d : Bool) (k : Fin 6) : O₀ e (recvCell d k c) () = if e = bk d c then N else 0 := by
  unfold O₀ O₁
  rw [Pi.add_apply, Finsupp.add_apply, Pi.add_apply, Finsupp.add_apply, OR_recv e c d k 6 (Nat.le_refl _),
    tallyAt_ne_cell (recv_ne_bar _ _ _ _), tallyAt_ne_cell (recv_ne_bar _ _ _ _)]
  simp

/-- A barrier is owed one unit by each neighbour. -/
theorem owed_bar (e c : Dev nD) : O₀ e (barCell c) () = (if e = bk false c then 1 else 0) + (if e = bk true c then 1 else 0) := by
  unfold O₀ O₁
  rw [Pi.add_apply, Finsupp.add_apply, Pi.add_apply, Finsupp.add_apply, OR_bar, tallyAt_apply, tallyAt_apply]
  simp only [cell_iff, fwd_iff, and_true, Nat.zero_add]

/-- The launch credits a barrier with the two units that it is owed. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib,
    Finset.sum_ite_eq' Finset.univ (bk false c) fun _ => 1, Finset.sum_ite_eq' Finset.univ (bk true c) fun _ => 1, if_pos (Finset.mem_univ _), if_pos (Finset.mem_univ _)]

/-- The launch credits a receive cell with the chunk that it is owed. -/
theorem launch_recv (d : Bool) (k : Fin 6) (c : Dev nD) :
    tallyOn (recvCell d k c) (launchCredit (Pipeline.owing O₀) 0 (recvCell d k c)) = (tallyAt (recvCell d k c) () N : CellTallies nD τ sig Unit) := by
  unfold tallyAt; refine congrArg _ (Finsupp.ext fun u => ?_); cases u
  rw [Pipeline.launchCredit_owing, Finsupp.single_eq_same, Finset.sum_congr rfl fun e _ => owed_recv e c d k, Finset.sum_ite_eq' Finset.univ (bk d c) fun _ => N,
    if_pos (Finset.mem_univ _)]

/-- A device's credits, cell by cell. -/
theorem cred_cells (c : Dev nD) : (Pipeline.launchCred O₀ c : sProp 𝕄)
    ⊢ bigSep Finset.univ fun k : Fin 25 => cred (tallyOn (kcell (c, k)) (launchCredit (Pipeline.owing O₀) 0 (kcell (c, k)))) := by
  unfold Pipeline.launchCred
  refine (bigSep_subset (t := Finset.univ.map ⟨csem, csem_injective⟩) (Finset.subset_univ _)).trans ?_
  rw [bigSep_map]
  exact BI.Entails.refl _

/-- A device's credits: two units for the barrier, a chunk for every receive cell. -/
theorem creds_intro (c : Dev nD) : (Pipeline.launchCred O₀ c : sProp 𝕄) ⊢ creds (F := F) c := by
  refine (cred_cells (F := F) c).trans ?_
  rw [bigSep_fin25]
  iintro ⟨Hb, -, -, -, -, -, -, -, -, -, -, -, -, Hr00, Hr01, Hr02, Hr03, Hr04, Hr05, Hr10, Hr11, Hr12, Hr13, Hr14, Hr15⟩
  unfold creds
  isplitl [Hb]; · rw [show kcell (c, 0) = barCell c from rfl, launch_bar]; iexact Hb
  isplitl [Hr00]; · rw [show kcell (c, recvIx false 0) = recvCell false 0 c from rfl, launch_recv]; iexact Hr00
  isplitl [Hr01]; · rw [show kcell (c, recvIx false 1) = recvCell false 1 c from rfl, launch_recv]; iexact Hr01
  isplitl [Hr02]; · rw [show kcell (c, recvIx false 2) = recvCell false 2 c from rfl, launch_recv]; iexact Hr02
  isplitl [Hr03]; · rw [show kcell (c, recvIx false 3) = recvCell false 3 c from rfl, launch_recv]; iexact Hr03
  isplitl [Hr04]; · rw [show kcell (c, recvIx false 4) = recvCell false 4 c from rfl, launch_recv]; iexact Hr04
  isplitl [Hr05]; · rw [show kcell (c, recvIx false 5) = recvCell false 5 c from rfl, launch_recv]; iexact Hr05
  isplitl [Hr10]; · rw [show kcell (c, recvIx true 0) = recvCell true 0 c from rfl, launch_recv]; iexact Hr10
  isplitl [Hr11]; · rw [show kcell (c, recvIx true 1) = recvCell true 1 c from rfl, launch_recv]; iexact Hr11
  isplitl [Hr12]; · rw [show kcell (c, recvIx true 2) = recvCell true 2 c from rfl, launch_recv]; iexact Hr12
  isplitl [Hr13]; · rw [show kcell (c, recvIx true 3) = recvCell true 3 c from rfl, launch_recv]; iexact Hr13
  isplitl [Hr14]; · rw [show kcell (c, recvIx true 4) = recvCell true 4 c from rfl, launch_recv]; iexact Hr14
  rw [show kcell (c, recvIx true 5) = recvCell true 5 c from rfl, launch_recv]; iexact Hr15

/-! ### The theorem's side conditions -/

/-- What the launch gives a device is the start of its protocol. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Ain m) (Bin m) c)
      ⊢ |={Set.univ}=> iprop(start (Ain m) (Bin m) c ∗ emp) := by
  iintro ⟨-, Hlev, Hcr, -, HG⟩
  ihave Hc := (creds_intro (F := F) c) $$ Hcr
  imodintro
  unfold start G' records Ctx
  icases HG with ⟨%K, ⟨HI, HR⟩, Hl⟩
  isplitl
  · iexists K
    isplitl [HI HR Hlev]
    · isplitl [HI]; · iexact HI
      isplitl [HR] <;> iassumption
    isplitl [Hl] <;> iassumption
  · iempintro

/-- The start of the protocol and the scratch buffers are what the body needs. -/
theorem phi0_intro (c : Dev nD) :
    iprop(start (Ain m) (Bin m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (Ain m) (Bin m) c ∗ scr (F := F) c) from rfl, scr_eq]
  iintro ⟨Hs, -, Hr⟩
  isplitl [Hs] <;> iassumption

/-- What the body leaves gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr (F := F) c ∗ semsEnd (F := F) c) from rfl, scr_eq, ← sems_eq]
  iintro ⟨Hr, H1, H2⟩
  isplitl [H1]; · iexact H1
  isplitl [H2] <;> iassumption

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

/-- What window `w`'s array holds at the end. -/
def finalA (c : Dev nD) (w : Fin cfg0.W) : Buf (Elt F) ((cfg0.win w).arr.view.loc (c : Thread nD τ)) := (dats m ρ 0 c).arrAt w cfg0.N

/-- How the run ends: every device's operands and result are as the pipeline says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution on four devices terminates, and every final state has
    each window's array at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Ain m) (Bin m)) (G' := G' (Ain m) (Bin m)) (u₀ := u₀)
    (hu₀ := by
      unfold u₀
      iintro Hu
      ihave H := (ownU_pair _ _) $$ Hu
      icases H with ⟨HP, HX⟩
      imod (fund_ring (Ain m) (Bin m)) $$ HX with HG
      imodintro
      isplitl [HP] <;> iassumption)
    (hglob := glob (Ain m) (Bin m))
    (hA := fun _ _ => rfl) (hpf := fun _ k => k.elim0)
    (X := start (Ain m) (Bin m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_0 (c : Dev nD) : finalA m ρ c (0 : Fin 3) = m ((c : Thread nD τ).loc main_arg0) := (dats (F := F) m ρ 0 c).arrAt_in (0 : Fin 3) rfl _
/-- The run leaves the right operand unchanged. -/
theorem finalA_1 (c : Dev nD) : finalA m ρ c (1 : Fin 3) = m ((c : Thread nD τ).loc main_arg1) := (dats (F := F) m ρ 0 c).arrAt_in (1 : Fin 3) rfl _

end Cert.KernelIdeal.K

end
-- ==== Proof.Value.lean ====
/- What the run leaves, at exact arithmetic: on every device the result array is the GELU of the product of the whole
   operands, which is what the reference computes. -/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.KernelIdeal.K

open Cert.KernelIdeal Cert.KernelIdeal.Gen
open Idealize.ShloMosaic Idealize.ShloMosaic.TcCoe Idealize.ShloMosaic.ValueIdx
open Idealize.SL Idealize.SL.Sem
open scoped BigOperators

/-! ## The arrays at the end -/

section Arrays

variable {F : FTy → Type} [FloatOps F]
variable (m : (ℓ : Loc nD τ sig) → Buf (Elt F) ℓ) (ρ : Dev nD → PrngReg)

/-- The left operand's only block begins at zero. -/
theorem offs0_0 : ∀ a, win0_0.index (0 : Fin 1) a * win0_0.size a = 0 := by decide +kernel
/-- The right operand's only block begins at zero. -/
theorem offs0_1 : ∀ a, win0_1.index (0 : Fin 1) a * win0_1.size a = 0 := by decide +kernel
/-- The result's only block begins at zero. -/
theorem offs0_2 : ∀ a, win0_2.index (0 : Fin 1) a * win0_2.size a = 0 := by decide +kernel

/-- The left operand as staged is the device's whole left operand; -/
theorem Ain_eq (c : Dev nD) : Ain m c = m ((c : Thread nD τ).loc main_arg0) := by
  funext i
  show m ((c : Thread nD τ).loc main_arg0) (((win0_0.blk (0 : Fin 1)).view.emb) i) = _
  congr 1
  funext a
  refine Fin.ext ?_
  show win0_0.index (0 : Fin 1) a * win0_0.size a + 1 * (i a).val = (i a).val
  rw [offs0_0, Nat.one_mul, Nat.zero_add]
/-- and the right one likewise. -/
theorem Bin_eq (c : Dev nD) : Bin m c = m ((c : Thread nD τ).loc main_arg1) := by
  funext i
  show m ((c : Thread nD τ).loc main_arg1) (((win0_1.blk (0 : Fin 1)).view.emb) i) = _
  congr 1
  funext a
  refine Fin.ext ?_
  show win0_1.index (0 : Fin 1) a * win0_1.size a + 1 * (i a).val = (i a).val
  rw [offs0_1, Nat.one_mul, Nat.zero_add]

/-- The only step writes the result that the body leaves. -/
theorem flushed_eq (c : Dev nD) (t : Fin cfg0.N) :
    (dats m ρ 0 c).flushed (2 : Fin 3) t = ((cfg0.win (2 : Fin 3)).blk t).view.read (Elt F) (outAt (Ain m) (Bin m) c) := by
  obtain rfl := fin_N0 t
  unfold Pipeline.Dat.flushed
  rw [show (dats m ρ 0 c).after (2 : Fin 3) t0_0 = outAt (Ain m) (Bin m) c from rfl]
  funext i
  show outAt (Ain m) (Bin m) c _ = outAt (Ain m) (Bin m) c (((win0_2.blk (0 : Fin 1)).view.emb) i)
  congr 1
  funext a
  refine Fin.ext ?_
  show _ = win0_2.index (0 : Fin 1) a * win0_2.size a + 1 * (i a).val
  rw [offs0_2, Nat.one_mul, Nat.zero_add]

/-- The only step's block covers the result. -/
theorem cover (i : S2048x2048.Idx) : ∃ t : Fin cfg0.N, (cfg0.win (2 : Fin 3)).flush t = true ∧ i ∈ ((cfg0.win (2 : Fin 3)).blk t).view.set := by
  refine ⟨t0_0, flush0_2 _, ?_⟩
  show i ∈ ((View.whole main_v1).slice (win0_2.rect (0 : Fin 1))).set
  rw [View.set_slice_whole, Rect.mem_set_unit]
  intro a
  show win0_2.index (0 : Fin 1) a * win0_2.size a ≤ (i a : ℕ) ∧ (i a : ℕ) < win0_2.index (0 : Fin 1) a * win0_2.size a + win0_2.xsize (grid0.coords (0 : Fin 1)) a
  rw [offs0_2, Nat.zero_add]
  refine ⟨Nat.zero_le _, lt_of_lt_of_le (i a).isLt (le_of_eq ?_)⟩
  revert a; decide +kernel

/-- The result array ends at the chunks the devices computed. -/
theorem finalA_2 (c : Dev nD) : finalA m ρ c (2 : Fin 3) = outAt (Ain m) (Bin m) c :=
  (dats m ρ 0 c).arrAt_eq_of_cover (2 : Fin 3) (outAt (Ain m) (Bin m) c) (fun t _ => flushed_eq m ρ c t) cover

end Arrays

/-! ## At exact arithmetic -/

section AtIdeal

variable (A : Dev nD → ABlk Ideal) (B : Dev nD → BBlk Ideal)

/-- Storing a chunk in the narrow format and reading it back changes nothing. -/
theorem pay27_pay21 (v : Vec Ideal S256x2048 .bf16) : k0_pay27 (k0_pay21 v) = k0_pay20 v := by
  show extf .f32 (shapeCast S256x2048 (truncf .bf16 (k0_pay20 v) bitsLt_bf16_f32) shapeCasts_S256x2048_S256x2048) bitsLt_bf16_f32 = _
  rw [shapeCast_self]
  rfl

/-- So each chunk of the result is the GELU of the accumulated chunk, computed by the device that ends with it. -/
theorem outChunk_eq (c : Dev nD) (d : Bool) (j : Dev nD) : outChunk A B c d j = k0_pay20 (accV A B d 3 (bk d j)) := by
  unfold outChunk gV
  rw [pay27_pay21]
  split
  · next h => rw [show c = bk d j from by revert h; revert c d j; decide]
  · rfl

/-- One device's contribution to a chunk: a product of a block of rows with its whole right block. -/
theorem part_apply (d : Bool) (j e : Dev nD) (r : Fin 256) (k : Fin 2048) :
    part A B d j e (ix2 r k) = ∑ l : Fin 1024, chunkA (A e) d j (ix2 r l) * B e (ix2 l k) := by
  have h3 : ∀ (v : Vec Ideal S256x1024 .f32) (w : Vec Ideal S1024x2048 .bf16), k0_pay3 v w (ix2 r k)
      = FloatOps.matmul (F := Ideal) (φ₁ := .bf16) (φ₂ := .bf16) (DotDims.plain 256 1024 2048) none (truncf .bf16 v bitsLt_bf16_f32) w (constant S256x2048 .f32 0x00000000#32) (ix2 r k) := by
    intro v w
    unfold k0_pay3
    simp only [shapeCast_self]
    rfl
  have h2 : ∀ w : Vec Ideal S1024x2048 .f32, k0_pay2 w = w := by
    intro w
    unfold k0_pay2
    simp only [shapeCast_self]
    rfl
  unfold part
  rw [h3, h2, Ideal.matmul_plain_apply]
  show Ideal.ofBits .f32 0x00000000#32 + _ = _
  rw [Ideal.ofBits_zero_f32, zero_add]
  rfl

/-- Three steps back after one lead to the device itself. -/
theorem back3 (d : Bool) (j : Dev nD) : bkn d 3 (bk d j) = j := by revert d j; decide
/-- Two steps back after two lead to the device itself. -/
theorem back2 (d : Bool) (j : Dev nD) : bkn d 2 (bk d (bk d j)) = j := by revert d j; decide
/-- One step back after three leads to the device itself. -/
theorem back1 (d : Bool) (j : Dev nD) : bkn d 1 (bk d (bk d (bk d j))) = j := by revert d j; decide
/-- Four steps back lead to the device itself. -/
theorem back0 (d : Bool) (j : Dev nD) : bkn d 0 (bk d (bk d (bk d (bk d j)))) = j := by revert d j; decide

/-- The accumulated chunk is the sum of all four devices' contributions. -/
theorem accV_apply (d : Bool) (j : Dev nD) (x : S256x2048.Idx) : accV A B d 3 (bk d j) x = ∑ e : Fin 4, part A B d j e x := by
  have h : accV A B d 3 (bk d j) x
      = part A B d (bkn d 3 (bk d j)) (bk d j) x + (part A B d (bkn d 2 (bk d (bk d j))) (bk d (bk d j)) x
        + (part A B d (bkn d 1 (bk d (bk d (bk d j)))) (bk d (bk d (bk d j))) x + part A B d (bkn d 0 (bk d (bk d (bk d (bk d j))))) (bk d (bk d (bk d (bk d j)))) x)) := by
    simp only [accV, addV, shapeCast_self]
    rfl
  rw [h, show bkn d 3 (bk d j) = j from back3 d j, show bkn d 2 (bk d (bk d j)) = j from back2 d j,
    show bkn d 1 (bk d (bk d (bk d j))) = j from back1 d j, show bkn d 0 (bk d (bk d (bk d (bk d j)))) = j from back0 d j]
  have hs : ∀ f : Fin 4 → EReal, ∀ d : Bool, ∀ j : Fin 4, f (bk d j) + (f (bk d (bk d j)) + (f (bk d (bk d (bk d j))) + f (bk d (bk d (bk d (bk d j)))))) = ∑ e : Fin 4, f e := by
    intro f d j
    rw [Fin.sum_univ_four]
    fin_cases j <;> cases d
    all_goals first
      | (show f 3 + (f 2 + (f 1 + f 0)) = _; abel)
      | (show f 0 + (f 3 + (f 2 + f 1)) = _; abel)
      | (show f 1 + (f 0 + (f 3 + f 2)) = _; abel)
      | (show f 2 + (f 1 + (f 0 + f 3)) = _; abel)
      | (show f 0 + (f 1 + (f 2 + f 3)) = _; abel)
      | (show f 1 + (f 2 + (f 3 + f 0)) = _; abel)
      | (show f 2 + (f 3 + (f 0 + f 1)) = _; abel)
      | (show f 3 + (f 0 + (f 1 + f 2)) = _; abel)
  exact hs (fun e => part A B d j e x) d j

end AtIdeal

/-! ## Against the whole arrays -/

section Whole

variable (X : (⟨2, ![2048, 4096]⟩ : Shape).Idx → EReal) (Y : (⟨2, ![4096, 2048]⟩ : Shape).Idx → EReal)

/-- The left operand is cut into four blocks of columns, and the right one into four blocks of rows. -/
theorem tilesA : Layout.Tiles ⟨2, ![2048, 1024]⟩ ⟨2, ![2048, 4096]⟩ 1 4 := by decide
/-- The right operand's blocks of rows tile it over the four devices. -/
theorem tilesB : Layout.Tiles ⟨2, ![1024, 2048]⟩ ⟨2, ![4096, 2048]⟩ 0 4 := by decide

/-- The whole product. -/
def prod : FVec Ideal S2048x2048 .f32 := Host.dotGeneral (φ₁ := .f32) (φ₂ := .f32) (DotDims.plain 2048 4096 2048) none X Y

/-- A sum over the 4096 contracted positions, device by device. -/
theorem sum_split (f : Fin 4096 → EReal) : ∑ q : Fin 4096, f q = ∑ e : Fin 4, ∑ l : Fin 1024, f ⟨l.val + 1024 * e.val, by omega⟩ := by
  rw [← Fintype.sum_prod_type', ← Equiv.sum_comp (finProdFinEquiv (m := 4) (n := 1024))]
  rfl

variable (A : Dev nD → ABlk Ideal) (B : Dev nD → BBlk Ideal)
  (hA : ∀ c, A c = Layout.block ⟨2, ![2048, 1024]⟩ ⟨2, ![2048, 4096]⟩ 1 4 c X tilesA)
  (hB : ∀ c, B c = Layout.block ⟨2, ![1024, 2048]⟩ ⟨2, ![4096, 2048]⟩ 0 4 c Y tilesB)

include hA hB in
/-- The accumulated chunk is that chunk of the whole product. -/
theorem accV_prod (d : Bool) (j : Dev nD) (x : S256x2048.Idx) : accV A B d 3 (bk d j) x = prod X Y ((rows d j).emb x) := by
  rw [accV_apply]
  obtain ⟨r, k, rfl⟩ : ∃ (r : Fin 256) (k : Fin 2048), x = ix2 r k := ⟨x 0, x 1, (eq_ix2 x)⟩
  obtain ⟨R, hR⟩ : ∃ R : Fin 2048, R.val = ((rows d j).emb (ix2 r k) 0).val := ⟨⟨_, ((rows d j).emb (ix2 r k) 0).isLt⟩, rfl⟩
  have he : (rows d j).emb (ix2 r k) = (ix2 R k : S2048x2048.Idx) := by
    funext a
    fin_cases a
    · exact Fin.ext hR.symm
    · exact Fin.ext (emb1 d j (ix2 r k))
  rw [he]
  have hd : prod X Y (ix2 R k) = ∑ q : Fin 4096, X (ix2 R q) * Y (ix2 q k) :=
    StackMember.dotGeneral_plain_apply (φ₁ := .f32) (φ₂ := .f32) none X Y R k
  rw [hd, sum_split]
  refine Finset.sum_congr rfl fun e _ => ?_
  rw [part_apply]
  refine Finset.sum_congr rfl fun l _ => ?_
  congr 1
  · unfold chunkA
    rw [hA, Layout.block_apply]
    congr 1
    funext a
    fin_cases a
    · exact Fin.ext hR.symm
    · refine Fin.ext ?_
      show e.val * 1024 + (0 + 1 * l.val) = l.val + 1024 * e.val
      omega
  · rw [hB, Layout.block_apply]
    congr 1
    funext a
    fin_cases a
    · refine Fin.ext ?_
      show e.val * 1024 + l.val = l.val + 1024 * e.val
      omega
    · rfl

/-- The GELU of an array, as the reference spells it. -/
def geluOf (x : FVec Ideal S2048x2048 .f32) : FVec Ideal S2048x2048 .f32 :=
  mulf (mulf (broadcastInDim S2048x2048 ![] Cert.ReferenceIdeal.Facts₀.bcast_S_S2048x2048 (constant S_ .f32 0x3F000000#32)) x)
    (addf (broadcastInDim S2048x2048 ![] Cert.ReferenceIdeal.Facts₀.bcast_S_S2048x2048 (constant S_ .f32 0x3F800000#32))
      (Host.tanh (mulf (broadcastInDim S2048x2048 ![] Cert.ReferenceIdeal.Facts₀.bcast_S_S2048x2048 (constant S_ .f32 0x3F4C422A#32))
        (addf x (mulf (mulf (mulf (broadcastInDim S2048x2048 ![] Cert.ReferenceIdeal.Facts₀.bcast_S_S2048x2048 (constant S_ .f32 0x3D372713#32)) x) x) x)))))

/-- The kernel's GELU and the reference's agree entry by entry. -/
theorem gelu_apply (v : Vec Ideal S256x2048 .bf16) (z : FVec Ideal S2048x2048 .f32) (x : S256x2048.Idx) (i : S2048x2048.Idx)
    (h : v x = z i) : k0_pay20 v x = geluOf z i := by
  have hk : k0_pay20 v x = (fun y : EReal => Ideal.ofBits .f32 0x3F000000#32 * y * (Ideal.ofBits .f32 0x3F800000#32
      + Ideal.tanh (Ideal.ofBits .f32 0x3F4C422A#32 * (y + Ideal.ofBits .f32 0x3D372713#32 * y * y * y)))) (v x) := rfl
  rw [hk, h]
  rfl

include hA hB in
/-- **The value**: every device's result is the reference's term of the whole operands. -/
theorem outAt_eq (c : Dev nD) : outAt A B c = geluOf (prod X Y) := by
  funext i
  show outChunk A B c (locD i) (locJ i) (locX i) = _
  rw [outChunk_eq]
  refine gelu_apply _ _ _ _ ?_
  rw [accV_prod X Y A B hA hB, emb_loc]

end Whole

end Cert.KernelIdeal.K

end
-- ==== Proof.Same.lean ====
/- The kernel as printed and its idealization are one program: nothing was rewritten, so their tables of bodies are the
   same. -/
module

public import proofs.«01_k».proof.Proof.Gen.Kernel
public import proofs.«01_k».proof.Proof.Gen.KernelIdeal
public import Idealize.ShloMosaic.PureOps.BitExact

@[expose] public section

noncomputable section

namespace Cert.KernelIdeal.K

open Idealize.ShloMosaic

/-- The kernel bodies of the two programs are the same. -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- And so are their tables with the regions'. -/
theorem defs_same : Cert.Kernel.defs (F := Bits) = Cert.KernelIdeal.defs (F := Bits) :=
  congrArg (Pipeline.defs (Cert.KernelIdeal.pcfgs (F := Bits))) defs₀_same

end Cert.KernelIdeal.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as printed: it terminates, leaves its arguments unchanged and every semaphore counter at zero. -/
theorem frame_kernel : Cert.quiescent_Kernel (hKernel := Cert.Kernel.Gen.facts) := fun m ρ _ => by
  rw [Cert.KernelIdeal.K.defs_same]
  exact (θ_run Cert.KernelIdeal.defs _ _).mono
    (fun _ h => ⟨fun c => ⟨(h.1 c (0 : Fin 3)).trans (Cert.KernelIdeal.K.finalA_0 m ρ c), (h.1 c (1 : Fin 3)).trans (Cert.KernelIdeal.K.finalA_1 m ρ c)⟩, h.2⟩)
    (Cert.KernelIdeal.K.run_main (F := Bits) m ρ)

/-- The same of the idealized kernel. -/
theorem frame_kernel_ideal : Cert.quiescent_KernelIdeal (hKernelIdeal := Cert.KernelIdeal.Gen.facts) := fun m ρ _ =>
  (θ_run Cert.KernelIdeal.defs _ _).mono
    (fun _ h => ⟨fun c => ⟨(h.1 c (0 : Fin 3)).trans (Cert.KernelIdeal.K.finalA_0 m ρ c), (h.1 c (1 : Fin 3)).trans (Cert.KernelIdeal.K.finalA_1 m ρ c)⟩, h.2⟩)
    (Cert.KernelIdeal.K.run_main (F := Ideal) m ρ)

/-- The same of the reference, which declares no semaphore. -/
theorem frame_reference_ideal : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Launched on their blocks of the reference's whole operands, all four devices end with the reference's result. -/
theorem value : Cert.algebraic_KernelIdeal_ReferenceIdeal (hKernelIdeal := Cert.KernelIdeal.Gen.facts) (hReferenceIdeal := Cert.ReferenceIdeal.Gen.facts) :=
  fun m ρ m' ρ' _ hm => by
    refine ⟨Cert.KernelIdeal.K.geluOf (Cert.KernelIdeal.K.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))), ?_, ?_⟩
    · refine (θ_run Cert.KernelIdeal.defs _ _).mono (fun _ h c => ⟨?_, (h.1 c (0 : Fin 3)).trans (Cert.KernelIdeal.K.finalA_0 m ρ c),
        (h.1 c (1 : Fin 3)).trans (Cert.KernelIdeal.K.finalA_1 m ρ c)⟩) (Cert.KernelIdeal.K.run_main (F := Ideal) m ρ)
      exact (h.1 c (2 : Fin 3)).trans ((Cert.KernelIdeal.K.finalA_2 m ρ c).trans (Cert.KernelIdeal.K.outAt_eq _ _ _ _
        (fun c => (Cert.KernelIdeal.K.Ain_eq m c).trans (hm c).1) (fun c => (Cert.KernelIdeal.K.Bin_eq m c).trans (hm c).2) c))
    · exact (θ_run Cert.ReferenceIdeal.defs _ _).mono (fun _ h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_kernel_ideal, frame_reference_ideal, trivial, value⟩

end Cert.Proof

end
